-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_clear [hKernelIdeal : Cert.KernelIdeal.Facts] [hReferenceIdeal : Cert.ReferenceIdeal.Facts] [hOn_clear : Cert.On_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 4]⟩ (Layout.meshBlock [2, 4, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 4, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 512]⟩ : Shape).Idx, (Layout.blockN ⟨2, ![256, 512]⟩ ⟨2, ![512, 512]⟩ (Layout.meshBlock [2, 4, 4] ![[0], []] c) ((Cert.On_clear.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![256, 512]⟩ : Shape).Idx → _) i = 1#1 → r.2.mem ((c.tc : Thread Cert.KernelIdeal.nD Cert.KernelIdeal.τ).loc Cert.KernelIdeal.main_v3) i = (Layout.blockN ⟨2, ![256, 512]⟩ ⟨2, ![512, 512]⟩ (Layout.meshBlock [2, 4, 4] ![[0], []] c) v0 : (⟨2, ![256, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 512]⟩ : Shape).Idx, (Cert.On_clear.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v138) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_clear : Cert.On_clear.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_clear (hKernelIdeal := hKernelIdeal) (hReferenceIdeal := hReferenceIdeal) (hOn_clear := hOn_clear)
-- ==== On_clear.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S_ : Shape := ⟨0, ![]⟩
abbrev S512 : Shape := ⟨1, ![512]⟩
abbrev S512x1 : Shape := ⟨2, ![512, 1]⟩

class Facts : Prop where
  reducesTo_S512x4_S512_d1 : S512x4.ReducesTo [1] S512
  h_S_ : 0 < S_.numel
  bcast_S512_S512x1_0 : S512.BroadcastsInDim S512x1 (![0] : Fin 1 → Fin S512x1.rank)
  bcast_S512x1_S512x4_0_1 : S512x1.BroadcastsInDim S512x4 (![0, 1] : Fin 2 → Fin S512x4.rank)
  bcast_S_S512x4 : S_.BroadcastsInDim S512x4 (![] : Fin 0 → Fin S512x4.rank)
  natLt_1_32 : 1 < 32
  bcast_S_S512x1 : S_.BroadcastsInDim S512x1 (![] : Fin 0 → Fin S512x1.rank)
  bcast_S512x1_S512x512_0_1 : S512x1.BroadcastsInDim S512x512 (![0, 1] : Fin 2 → Fin S512x512.rank)
  dot_S512x512_S512x4_S512x4_1_0_0_1_n_n_wf : DotDims.WF S512x512 S512x4 S512x4 [1] [0] [0] [1] [] []

variable [Facts]

def dot_S512x512_S512x4_S512x4_1_0_0_1_n_n : DotDims S512x512 S512x4 S512x4 where
  lhsContracting := [1]
  rhsContracting := [0]
  lhsNonContracting := [0]
  rhsNonContracting := [1]
  lhsBatch := []
  rhsBatch := []
  wf := dot_S512x512_S512x4_S512x4_1_0_0_1_n_n_wf
def fn_where {F : FTy → Type} [FloatOps F] (arg0 : IVec S512x4 1) (arg1 : FVec F S512x4 .f32) (arg2 : FVec F S_ .f32) : FVec F S512x4 .f32 :=
  let v0 : FVec F S_ .f32 := id arg2
  let v1 : FVec F S512x4 .f32 := broadcastInDim S512x4 ![] bcast_S_S512x4 v0
  let v2 : FVec F S512x4 .f32 := select arg0 arg1 v1
  v2

def fn_part1 {F : FTy → Type} [FloatOps F] (main_v2 : FVec F S512x1 .f32) (main_v14 : IVec S512x1 1) (main_v17 : IVec S512x4 32) (main_c_3 : IVec S_ 32) : IVec S512x512 1 :=
  let main_v18 : IVec S512 32 := (fun x v => Host.reduce IntOp.addi x v reducesTo_S512x4_S512_d1 h_S_) main_v17 main_c_3
  let main_v19 : IVec S512x1 32 := broadcastInDim S512x1 ![0] bcast_S512_S512x1_0 main_v18
  let main_c_4 : IVec S_ 32 := constantI S_ 32 2#32
  let main_v20 : IVec S512x1 32 := broadcastInDim S512x1 ![] bcast_S_S512x1 main_c_4
  let main_v21 : IVec S512x1 1 := cmpi .eq main_v19 main_v20
  let main_v22 : IVec S512x1 1 := andi main_v14 main_v21
  let main_cst_5 : FVec F S_ .f32 := constant S_ .f32 0x7F800000#32
  let main_v23 : FVec F S512x1 .f32 := broadcastInDim S512x1 ![] bcast_S_S512x1 main_cst_5
  let main_v24 : IVec S512x1 1 := cmpf .olt main_v2 main_v23
  let main_v25 : IVec S512x1 1 := andi main_v22 main_v24
  let main_v26 : IVec S512x512 1 := broadcastInDim S512x512 ![0, 1] bcast_S512x1_S512x512_0_1 main_v25
  main_v26

def fn {F : FTy → Type} [FloatOps F] (main_arg0 : FVec F S512x512 .f32) (main_arg1 : FVec F S512x4 .f32) (main_arg2 : FVec F S4x512x1024 .f32) (main_arg3 : FVec F S4x1024x512 .f32) : IVec S512x512 1 :=
  let main_v0 : FVec F S512x4 .f32 := (fun l r => Host.dotGeneral dot_S512x512_S512x4_S512x4_1_0_0_1_n_n none l r) main_arg0 main_arg1
  let main_cst : FVec F S_ .f32 := constant S_ .f32 0xFF800000#32
  let main_v1 : FVec F S512 .f32 := (fun x v => Host.reduce FloatOps.maximumf x v reducesTo_S512x4_S512_d1 h_S_) main_v0 main_cst
  let main_v2 : FVec F S512x1 .f32 := broadcastInDim S512x1 ![0] bcast_S512_S512x1_0 main_v1
  let main_v3 : FVec F S512x4 .f32 := broadcastInDim S512x4 ![0, 1] bcast_S512x1_S512x4_0_1 main_v2
  let main_v4 : IVec S512x4 1 := cmpf .olt main_v0 main_v3
  let main_cst_0 : FVec F S_ .f32 := constant S_ .f32 0xFF800000#32
  let main_v5 : FVec F S512x4 .f32 := fn_where (F := F) main_v4 main_v0 main_cst_0
  let main_cst_1 : FVec F S_ .f32 := constant S_ .f32 0xFF800000#32
  let main_v6 : FVec F S512 .f32 := (fun x v => Host.reduce FloatOps.maximumf x v reducesTo_S512x4_S512_d1 h_S_) main_v5 main_cst_1
  let main_v7 : FVec F S512x1 .f32 := broadcastInDim S512x1 ![0] bcast_S512_S512x1_0 main_v6
  let main_v8 : FVec F S512x4 .f32 := broadcastInDim S512x4 ![0, 1] bcast_S512x1_S512x4_0_1 main_v2
  let main_v9 : IVec S512x4 1 := cmpf .oge main_v0 main_v8
  let main_v10 : IVec S512x4 32 := (extui 32 · natLt_1_32) main_v9
  let main_c : IVec S_ 32 := constantI S_ 32 0#32
  let main_v11 : IVec S512 32 := (fun x v => Host.reduce IntOp.addi x v reducesTo_S512x4_S512_d1 h_S_) main_v10 main_c
  let main_v12 : IVec S512x1 32 := broadcastInDim S512x1 ![0] bcast_S512_S512x1_0 main_v11
  let main_c_2 : IVec S_ 32 := constantI S_ 32 1#32
  let main_v13 : IVec S512x1 32 := broadcastInDim S512x1 ![] bcast_S_S512x1 main_c_2
  let main_v14 : IVec S512x1 1 := cmpi .eq main_v12 main_v13
  let main_v15 : FVec F S512x4 .f32 := broadcastInDim S512x4 ![0, 1] bcast_S512x1_S512x4_0_1 main_v7
  let main_v16 : IVec S512x4 1 := cmpf .oge main_v0 main_v15
  let main_v17 : IVec S512x4 32 := (extui 32 · natLt_1_32) main_v16
  let main_c_3 : IVec S_ 32 := constantI S_ 32 0#32
  fn_part1 (F := F) main_v2 main_v14 main_v17 main_c_3
-- ==== Kernel.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S2x512 : Shape := ⟨2, ![2, 512]⟩
abbrev S5 : Shape := ⟨1, ![5]⟩
abbrev S_ : Shape := ⟨0, ![]⟩
abbrev S1 : Shape := ⟨1, ![1]⟩
abbrev S128x512 : Shape := ⟨2, ![128, 512]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S256x1024 : Shape := ⟨2, ![256, 1024]⟩
abbrev S256x2 : Shape := ⟨2, ![256, 2]⟩
abbrev S256x4 : Shape := ⟨2, ![256, 4]⟩
abbrev S256 : Shape := ⟨1, ![256]⟩
abbrev S256x1 : Shape := ⟨2, ![256, 1]⟩
abbrev S128x2 : Shape := ⟨2, ![128, 2]⟩
abbrev S128x4 : Shape := ⟨2, ![128, 4]⟩
abbrev S128 : Shape := ⟨1, ![128]⟩
abbrev S128x1 : Shape := ⟨2, ![128, 1]⟩
abbrev S128x1024 : Shape := ⟨2, ![128, 1024]⟩

abbrev nBuf : Space → Nat
  | .hbm => 7
  | .vmem => 11
  | .smem => 0
  | _ => 0

abbrev bufTy : (tb : Table) → Fin (tcTables nBuf tb) → BufTy
  | .hbm, ⟨0, _⟩ => ⟨S256x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S256x512, .bf16⟩
  | .hbm, ⟨5, _⟩ => ⟨S2x512, .f32⟩
  | .hbm, ⟨6, _⟩ => ⟨S256x512, .f32⟩
  | .local _ .vmem, ⟨0, _⟩ => ⟨S256x512, .bf16⟩
  | .local _ .vmem, ⟨1, _⟩ => ⟨S2x512, .f32⟩
  | .local _ .vmem, ⟨2, _⟩ => ⟨S2x512x1024, .f32⟩
  | .local _ .vmem, ⟨3, _⟩ => ⟨S2x1024x512, .f32⟩
  | .local _ .vmem, ⟨4, _⟩ => ⟨S256x512, .f32⟩
  | .local _ .vmem, ⟨5, _⟩ => ⟨S256x512, .bf16⟩
  | .local _ .vmem, ⟨6, _⟩ => ⟨S2x512, .f32⟩
  | .local _ .vmem, ⟨7, _⟩ => ⟨S256x512, .bf16⟩
  | .local _ .vmem, ⟨8, _⟩ => ⟨S256x512, .bf16⟩
  | .local _ .vmem, ⟨9, _⟩ => ⟨S2x512x1024, .bf16⟩
  | .local _ .vmem, ⟨10, _⟩ => ⟨S2x1024x512, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_11 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_10 : BitVec 32 := 16#32
  let v17 : BitVec 32 := Scalar.muli v9 c16_i32_10
  let v18 : BitVec 32 := Scalar.addi c0_i32_11 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v19 : BitVec 32 := Scalar.muli v5 c4_i32_12
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v21 : BitVec 32 := Scalar.muli v8 c1_i32_13
  let v22 : BitVec 32 := Scalar.addi v20 v21
  v22.toNat
def k0_dev3 (d0 : Dev nD) : Nat :=
  let c0_i32_21 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_20 : BitVec 32 := 16#32
  let v29 : BitVec 32 := Scalar.muli v9 c16_i32_20
  let v30 : BitVec 32 := Scalar.addi c0_i32_21 v29
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_22 : BitVec 32 := 4#32
  let v31 : BitVec 32 := Scalar.muli v5 c4_i32_22
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v33 : BitVec 32 := Scalar.muli v8 c1_i32_23
  let v34 : BitVec 32 := Scalar.addi v32 v33
  v34.toNat
def k0_dev4 (d0 : Dev nD) : Nat :=
  let c0_i32_30 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_29 : BitVec 32 := 16#32
  let v41 : BitVec 32 := Scalar.muli v9 c16_i32_29
  let v42 : BitVec 32 := Scalar.addi c0_i32_30 v41
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v43 : BitVec 32 := Scalar.muli v5 c4_i32_31
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v45 : BitVec 32 := Scalar.muli v8 c1_i32_32
  let v46 : BitVec 32 := Scalar.addi v44 v45
  v46.toNat
def k0_dev5 (d0 : Dev nD) : Nat :=
  let c0_i32_150 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_149 : BitVec 32 := 16#32
  let v227 : BitVec 32 := Scalar.muli v9 c16_i32_149
  let v228 : BitVec 32 := Scalar.addi c0_i32_150 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_151 : BitVec 32 := 4#32
  let v229 : BitVec 32 := Scalar.muli v5 c4_i32_151
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v231 : BitVec 32 := Scalar.muli v8 c1_i32_152
  let v232 : BitVec 32 := Scalar.addi v230 v231
  v232.toNat
def k0_dev6 (d0 : Dev nD) : Nat :=
  let c0_i32_209 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_208 : BitVec 32 := 16#32
  let v317 : BitVec 32 := Scalar.muli v9 c16_i32_208
  let v318 : BitVec 32 := Scalar.addi c0_i32_209 v317
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_210 : BitVec 32 := 4#32
  let v319 : BitVec 32 := Scalar.muli v5 c4_i32_210
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v321 : BitVec 32 := Scalar.muli v8 c1_i32_211
  let v322 : BitVec 32 := Scalar.addi v320 v321
  v322.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x2 : Shape := ⟨2, ![512, 2]⟩
abbrev S_ : Shape := ⟨0, ![]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 196
  | .vmem => 0
  | .smem => 0
  | _ => 0

abbrev hbmTy0_0 (i : Nat) : BufTy := match i % 128 with
  | 0 => ⟨S512x512, .f32⟩
  | 1 => ⟨S512x4, .f32⟩
  | 2 => ⟨S4x512x1024, .f32⟩
  | 3 => ⟨S4x1024x512, .f32⟩
  | 4 => ⟨S512x4, .f32⟩
  | 5 => ⟨S512x2, .f32⟩
  | 6 => ⟨S512x2, .i32⟩
  | 7 => ⟨S_, .f32⟩
  | 8 => ⟨S512, .f32⟩
  | 9 => ⟨S512x1, .f32⟩
  | 10 => ⟨S512x2, .f32⟩
  | 11 => ⟨S512x2, .f32⟩
  | 12 => ⟨S512x2, .f32⟩
  | 13 => ⟨S_, .f32⟩
  | 14 => ⟨S512, .f32⟩
  | 15 => ⟨S512x1, .f32⟩
  | 16 => ⟨S512x2, .f32⟩
  | 17 => ⟨S512x2, .f32⟩
  | 18 => ⟨S_, .f32⟩
  | 19 => ⟨S512x512, .f32⟩
  | 20 => ⟨S512x1, .i32⟩
  | 21 => ⟨S_, .i32⟩
  | 22 => ⟨S512x1, .i32⟩
  | 23 => ⟨S512x1, .i1⟩
  | 24 => ⟨S1x512x1024, .f32⟩
  | 25 => ⟨S512x1024, .f32⟩
  | 26 => ⟨S512x1024, .f32⟩
  | 27 => ⟨S_, .f32⟩
  | 28 => ⟨S512x1024, .f32⟩
  | 29 => ⟨S512x1024, .f32⟩
  | 30 => ⟨S1x1024x512, .f32⟩
  | 31 => ⟨S1024x512, .f32⟩
  | 32 => ⟨S512x512, .f32⟩
  | 33 => ⟨S512x1, .f32⟩
  | 34 => ⟨S512x512, .f32⟩
  | 35 => ⟨S512x512, .f32⟩
  | 36 => ⟨S_, .f32⟩
  | 37 => ⟨S_, .f32⟩
  | 38 => ⟨S512x512, .i1⟩
  | 39 => ⟨S512x512, .f32⟩
  | 40 => ⟨S512x512, .f32⟩
  | 41 => ⟨S512x512, .f32⟩
  | 42 => ⟨S512x1, .i32⟩
  | 43 => ⟨S_, .i32⟩
  | 44 => ⟨S512x1, .i32⟩
  | 45 => ⟨S512x1, .i1⟩
  | 46 => ⟨S1x512x1024, .f32⟩
  | 47 => ⟨S512x1024, .f32⟩
  | 48 => ⟨S512x1024, .f32⟩
  | 49 => ⟨S_, .f32⟩
  | 50 => ⟨S512x1024, .f32⟩
  | 51 => ⟨S512x1024, .f32⟩
  | 52 => ⟨S1x1024x512, .f32⟩
  | 53 => ⟨S1024x512, .f32⟩
  | 54 => ⟨S512x512, .f32⟩
  | 55 => ⟨S512x1, .f32⟩
  | 56 => ⟨S512x512, .f32⟩
  | 57 => ⟨S512x512, .f32⟩
  | 58 => ⟨S_, .f32⟩
  | 59 => ⟨S_, .f32⟩
  | 60 => ⟨S512x512, .i1⟩
  | 61 => ⟨S512x512, .f32⟩
  | 62 => ⟨S512x512, .f32⟩
  | 63 => ⟨S512x512, .f32⟩
  | 64 => ⟨S512x1, .i32⟩
  | 65 => ⟨S_, .i32⟩
  | 66 => ⟨S512x1, .i32⟩
  | 67 => ⟨S512x1, .i1⟩
  | 68 => ⟨S1x512x1024, .f32⟩
  | 69 => ⟨S512x1024, .f32⟩
  | 70 => ⟨S512x1024, .f32⟩
  | 71 => ⟨S_, .f32⟩
  | 72 => ⟨S512x1024, .f32⟩
  | 73 => ⟨S512x1024, .f32⟩
  | 74 => ⟨S1x1024x512, .f32⟩
  | 75 => ⟨S1024x512, .f32⟩
  | 76 => ⟨S512x512, .f32⟩
  | 77 => ⟨S512x1, .f32⟩
  | 78 => ⟨S512x512, .f32⟩
  | 79 => ⟨S512x512, .f32⟩
  | 80 => ⟨S_, .f32⟩
  | 81 => ⟨S_, .f32⟩
  | 82 => ⟨S512x512, .i1⟩
  | 83 => ⟨S512x512, .f32⟩
  | 84 => ⟨S512x512, .f32⟩
  | 85 => ⟨S512x512, .f32⟩
  | 86 => ⟨S512x1, .i32⟩
  | 87 => ⟨S_, .i32⟩
  | 88 => ⟨S512x1, .i32⟩
  | 89 => ⟨S512x1, .i1⟩
  | 90 => ⟨S1x512x1024, .f32⟩
  | 91 => ⟨S512x1024, .f32⟩
  | 92 => ⟨S512x1024, .f32⟩
  | 93 => ⟨S_, .f32⟩
  | 94 => ⟨S512x1024, .f32⟩
  | 95 => ⟨S512x1024, .f32⟩
  | 96 => ⟨S1x1024x512, .f32⟩
  | 97 => ⟨S1024x512, .f32⟩
  | 98 => ⟨S512x512, .f32⟩
  | 99 => ⟨S512x1, .f32⟩
  | 100 => ⟨S512x512, .f32⟩
  | 101 => ⟨S512x512, .f32⟩
  | 102 => ⟨S_, .f32⟩
  | 103 => ⟨S_, .f32⟩
  | 104 => ⟨S512x512, .i1⟩
  | 105 => ⟨S512x512, .f32⟩
  | 106 => ⟨S512x512, .f32⟩
  | 107 => ⟨S512x512, .f32⟩
  | 108 => ⟨S512x1, .i32⟩
  | 109 => ⟨S_, .i32⟩
  | 110 => ⟨S512x1, .i32⟩
  | 111 => ⟨S512x1, .i1⟩
  | 112 => ⟨S1x512x1024, .f32⟩
  | 113 => ⟨S512x1024, .f32⟩
  | 114 => ⟨S512x1024, .f32⟩
  | 115 => ⟨S_, .f32⟩
  | 116 => ⟨S512x1024, .f32⟩
  | 117 => ⟨S512x1024, .f32⟩
  | 118 => ⟨S1x1024x512, .f32⟩
  | 119 => ⟨S1024x512, .f32⟩
  | 120 => ⟨S512x512, .f32⟩
  | 121 => ⟨S512x1, .f32⟩
  | 122 => ⟨S512x512, .f32⟩
  | 123 => ⟨S512x512, .f32⟩
  | 124 => ⟨S_, .f32⟩
  | 125 => ⟨S_, .f32⟩
  | 126 => ⟨S512x512, .i1⟩
  | 127 => ⟨S512x512, .f32⟩
  | _ => ⟨S512x512, .f32⟩

abbrev hbmTy0_1 (i : Nat) : BufTy := match i % 128 with
  | 0 => ⟨S512x512, .f32⟩
  | 1 => ⟨S512x512, .f32⟩
  | 2 => ⟨S512x1, .i32⟩
  | 3 => ⟨S_, .i32⟩
  | 4 => ⟨S512x1, .i32⟩
  | 5 => ⟨S512x1, .i1⟩
  | 6 => ⟨S1x512x1024, .f32⟩
  | 7 => ⟨S512x1024, .f32⟩
  | 8 => ⟨S512x1024, .f32⟩
  | 9 => ⟨S_, .f32⟩
  | 10 => ⟨S512x1024, .f32⟩
  | 11 => ⟨S512x1024, .f32⟩
  | 12 => ⟨S1x1024x512, .f32⟩
  | 13 => ⟨S1024x512, .f32⟩
  | 14 => ⟨S512x512, .f32⟩
  | 15 => ⟨S512x1, .f32⟩
  | 16 => ⟨S512x512, .f32⟩
  | 17 => ⟨S512x512, .f32⟩
  | 18 => ⟨S_, .f32⟩
  | 19 => ⟨S_, .f32⟩
  | 20 => ⟨S512x512, .i1⟩
  | 21 => ⟨S512x512, .f32⟩
  | 22 => ⟨S512x512, .f32⟩
  | 23 => ⟨S512x512, .f32⟩
  | 24 => ⟨S512x1, .i32⟩
  | 25 => ⟨S_, .i32⟩
  | 26 => ⟨S512x1, .i32⟩
  | 27 => ⟨S512x1, .i1⟩
  | 28 => ⟨S1x512x1024, .f32⟩
  | 29 => ⟨S512x1024, .f32⟩
  | 30 => ⟨S512x1024, .f32⟩
  | 31 => ⟨S_, .f32⟩
  | 32 => ⟨S512x1024, .f32⟩
  | 33 => ⟨S512x1024, .f32⟩
  | 34 => ⟨S1x1024x512, .f32⟩
  | 35 => ⟨S1024x512, .f32⟩
  | 36 => ⟨S512x512, .f32⟩
  | 37 => ⟨S512x1, .f32⟩
  | 38 => ⟨S512x512, .f32⟩
  | 39 => ⟨S512x512, .f32⟩
  | 40 => ⟨S_, .f32⟩
  | 41 => ⟨S_, .f32⟩
  | 42 => ⟨S512x512, .i1⟩
  | 43 => ⟨S512x512, .f32⟩
  | 44 => ⟨S512x512, .f32⟩
  | 45 => ⟨S512x512, .f32⟩
  | 46 => ⟨S512x1, .i32⟩
  | 47 => ⟨S_, .i32⟩
  | 48 => ⟨S512x1, .i32⟩
  | 49 => ⟨S512x1, .i1⟩
  | 50 => ⟨S1x512x1024, .f32⟩
  | 51 => ⟨S512x1024, .f32⟩
  | 52 => ⟨S512x1024, .f32⟩
  | 53 => ⟨S_, .f32⟩
  | 54 => ⟨S512x1024, .f32⟩
  | 55 => ⟨S512x1024, .f32⟩
  | 56 => ⟨S1x1024x512, .f32⟩
  | 57 => ⟨S1024x512, .f32⟩
  | 58 => ⟨S512x512, .f32⟩
  | 59 => ⟨S512x1, .f32⟩
  | 60 => ⟨S512x512, .f32⟩
  | 61 => ⟨S512x512, .f32⟩
  | 62 => ⟨S_, .f32⟩
  | 63 => ⟨S_, .f32⟩
  | 64 => ⟨S512x512, .i1⟩
  | 65 => ⟨S512x512, .f32⟩
  | 66 => ⟨S512x512, .f32⟩
  | 67 => ⟨S512x512, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_12 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_15 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_16 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_17 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_18 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_c_19 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_20 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_21 : Ref sig .tc := ⟨.hbm, 168, rfl⟩
abbrev main_call6_v0 : Ref sig .tc := ⟨.hbm, 169, rfl⟩
abbrev main_call6_v1 : Ref sig .tc := ⟨.hbm, 170, rfl⟩
abbrev main_call6_v2 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_c_22 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_23 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_24 : Ref sig .tc := ⟨.hbm, 190, rfl⟩
abbrev main_call7_v0 : Ref sig .tc := ⟨.hbm, 191, rfl⟩
abbrev main_call7_v1 : Ref sig .tc := ⟨.hbm, 192, rfl⟩
abbrev main_call7_v2 : Ref sig .tc := ⟨.hbm, 193, rfl⟩
abbrev main_v137 : Ref sig .tc := ⟨.hbm, 194, rfl⟩
abbrev main_v138 : Ref sig .tc := ⟨.hbm, 195, rfl⟩

abbrev nD : Nat := 1
abbrev τ : Topo := Topo.v7x

variable {F : FTy → Type} [FloatOps F]
-- ==== Proof.Held.lean ====
/-
Owning the two halves of a buffer, and loading from, storing to and sending a slice that is owned at
known contents.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Pipeline.Launch
public import Idealize.ShloMosaic.Lib.Pipeline.Kit
public import Idealize.ShloMosaic.Lib.Rounds.Family
public import Idealize.ShloMosaic.Lib.MemrefSat
public import Idealize.ShloMosaic.Lib.Tactic

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: one library for the pipeline's transfers, one for the kernel's own cells. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

instance elt_nonempty : ∀ e : EltTy, Nonempty (Elt F e) := fun e => inferInstance

/-! ## A pair of rectangles that tile a shape -/

section Pair

variable {sp : Space} {sh : Shape} {e : EltTy}

/-- The two rectangles of a pair as a family. -/
abbrev pairOf (r₀ r₁ : Rect sh) : Fin 2 → Rect sh := fun | 0 => r₀ | 1 => r₁

variable {r₀ r₁ : Rect sh} (h₀ : ∀ a, r₀.stride a = 1) (h₁ : ∀ a, r₁.stride a = 1)

/-- Two rectangles tile their shape: they are disjoint and every index is in one of them. -/
structure Tiles2 (r₀ r₁ : Rect sh) : Prop where
  disj : Disjoint r₀.set r₁.set
  cov : ∀ i, i ∈ r₀.set ∨ i ∈ r₁.set

include h₀ h₁ in
theorem pair_stride : ∀ t a, (pairOf r₀ r₁ t).stride a = 1 := fun t => match t with
  | 0 => h₀
  | 1 => h₁

variable (hT : Tiles2 r₀ r₁)

include hT in
theorem pair_disj : ∀ t t', t ≠ t' → Disjoint (pairOf r₀ r₁ t).set (pairOf r₀ r₁ t').set := fun t t' h => match t, t' with
  | 0, 0 => absurd rfl h
  | 0, 1 => hT.disj
  | 1, 0 => hT.disj.symm
  | 1, 1 => absurd rfl h

include hT in
theorem pair_cov : (Finset.univ : Finset (Fin 2)).biUnion (fun t => (pairOf r₀ r₁ t).set) = Finset.univ := by
  ext i
  simp only [Finset.mem_biUnion, Finset.mem_univ, true_and, iff_true]
  rcases hT.cov i with h | h
  · exact ⟨0, h⟩
  · exact ⟨1, h⟩

theorem bigSep_pair (Φ : Fin 2 → sProp 𝕄) : bigSep Finset.univ Φ = iprop(Φ 0 ∗ Φ 1) := by
  rw [show (Finset.univ : Finset (Fin 2)) = insert 0 {1} from rfl, bigSep_insert (by decide), bigSep_singleton]
  rfl

variable (c : Dev nD) (m : Memref sig .tc sp sh e) (q : PosShare TreeShare)

include hT in
/-- A memref owned at `X` is its two halves, each at its part of `X`. -/
theorem owns_split2 (X : sh.Idx → Elt F e) :
    (owns (c : Thread nD τ) m q X : sProp 𝕄) ⊢ iprop(owns (c : Thread nD τ) (m.slice r₀ h₀) q (fun j => X (r₀.emb j))
      ∗ owns (c : Thread nD τ) (m.slice r₁ h₁) q (fun j => X (r₁.emb j))) := by
  refine (owns_rects (c : Thread nD τ) m q (pairOf r₀ r₁) (pair_stride h₀ h₁) (pair_disj hT) (pair_cov hT) X).trans ?_
  rw [bigSep_pair]

include hT in
/-- and back. -/
theorem owns_join2 (X : sh.Idx → Elt F e) :
    iprop(owns (c : Thread nD τ) (m.slice r₀ h₀) q (fun j => X (r₀.emb j))
      ∗ owns (c : Thread nD τ) (m.slice r₁ h₁) q (fun j => X (r₁.emb j))) ⊢ (owns (c : Thread nD τ) m q X : sProp 𝕄) := by
  have h := owns_of_rects (Ix := Unit) (Name := ℕ) (U := UU) (Lvl := ℕ) (c : Thread nD τ) m q (pairOf r₀ r₁) (pair_stride h₀ h₁) (pair_disj hT) (pair_cov hT) X
  rw [bigSep_pair] at h
  exact h

/-- The contents with `X₀` on the first rectangle and `X₁` off it. -/
theorem exists_overlay (hT : Tiles2 r₀ r₁) (X₀ : r₀.shape.Idx → Elt F e) (X₁ : r₁.shape.Idx → Elt F e) :
    ∃ X : sh.Idx → Elt F e, (fun j => X (r₀.emb j)) = X₀ ∧ (fun j => X (r₁.emb j)) = X₁ := by
  refine ⟨r₀.overlay (r₁.overlay (fun _ => Classical.arbitrary _) X₁) X₀, ?_, ?_⟩
  · funext j; rw [Rect.overlay_emb]
  · funext j
    rw [Rect.overlay_of_not_mem, Rect.overlay_emb]
    intro hm
    exact Finset.disjoint_left.mp hT.disj hm (r₁.map_emb_univ ▸ Finset.mem_map_of_mem _ (Finset.mem_univ j))

include hT in
/-- Two halves owned at any contents are the memref at some contents. -/
theorem owns_join2_any (X₀ : r₀.shape.Idx → Elt F e) (X₁ : r₁.shape.Idx → Elt F e) :
    iprop(owns (c : Thread nD τ) (m.slice r₀ h₀) q X₀ ∗ owns (c : Thread nD τ) (m.slice r₁ h₁) q X₁)
      ⊢ (iprop(∃ X, owns (c : Thread nD τ) m q X) : sProp 𝕄) := by
  obtain ⟨X, h0, h1⟩ := exists_overlay hT X₀ X₁
  subst h0 h1
  exact (owns_join2 h₀ h₁ hT c m q X).trans (exists_intro X)

end Pair

/-! ## A whole buffer -/

theorem owns_whole' (c : Dev nD) (b : Ref sig .tc) (q : PosShare TreeShare) (f : b.ty.Contents (Elt F)) :
    (owns (c : Thread nD τ) (Memref.whole b) q f : sProp 𝕄) = ((c : Thread nD τ).loc b ↦{q} f) := owns_whole (c : Thread nD τ) b q f

/-! ## Loads, stores and sends on an owned memref -/

section Ops

/-- Device `c`'s program `p` run to `Q`. -/
abbrev Run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {α : Type} (c : Dev nD)

theorem owns_def {sh : Shape} {e : EltTy} (m : Memref sig .tc .vmem sh e) (q : PosShare TreeShare) (X : sh.Idx → Elt F e) :
    (owns (c : Thread nD τ) m q X : sProp 𝕄) = iprop(∃ f, ⌜m.view.read (Elt F) f = X⌝ ∗ (m.view.loc (c : Thread nD τ) ↦[m.view.set]{q} f)) := rfl

/-- A load of a rectangle of a memref whose slice there is owned reads the contents owned. -/
theorem wp_load_owns {sh : Shape} {e : EltTy} (m : Memref sig .tc .vmem sh e) (r : Rect sh) (hr : ∀ a, r.stride a = 1)
    {q : PosShare TreeShare} (X : r.shape.Idx → Elt F e) {hl : m.view.LoadsAt r.toLoadRect}
    {k : (r.shape.Idx → Elt F e) → Prog (TpuEff nD τ sig (Elt F) Λ₀ .tc) α} {Q : α → sProp 𝕄} :
    (owns (c : Thread nD τ) (m.slice r hr) q X : sProp 𝕄)
      ⊢ iprop((owns (c : Thread nD τ) (m.slice r hr) q X -∗ Run c (k X) Q) -∗ Run c (.op (.load m r.toLoadRect hl) k) Q) := by
  rw [owns_def]
  iintro ⟨%f, %hf, H⟩ Hk
  subst hf
  iapply (wp_load_rect 𝒱₀ (c : Thread nD τ) none Set.univ (m := m) (r := r)
    (S := (m.slice r hr).view.set) (Finset.Subset.refl _)) $$ H
  iintro H
  iapply Hk
  iexists f
  isplitr; · ipureintro; rfl
  iexact H

/-- A load of all of a memref that is owned. -/
theorem wp_load_full {sh : Shape} {e : EltTy} (m : Memref sig .tc .vmem sh e) {off : Fin sh.rank → ℕ} (hz : off = fun _ => 0)
    (inb : ∀ a, off a + sh.size a ≤ sh.size a) {q : PosShare TreeShare} (X : sh.Idx → Elt F e)
    {hl : m.view.LoadsAt (Rect.unit (s := sh) off sh.size inb).toLoadRect}
    {k : (sh.Idx → Elt F e) → Prog (TpuEff nD τ sig (Elt F) Λ₀ .tc) α} {Q : α → sProp 𝕄} :
    (owns (c : Thread nD τ) m q X : sProp 𝕄)
      ⊢ iprop((owns (c : Thread nD τ) m q X -∗ Run c (k X) Q)
        -∗ Run c (.op (.load m (Rect.unit (s := sh) off sh.size inb).toLoadRect hl) k) Q) := by
  subst hz
  rw [owns_def]
  iintro ⟨%f, %hf, H⟩ Hk
  have hv : (m.access (Rect.unit (s := sh) (fun _ => 0) sh.size inb)).read (Elt F) f = X := by
    rw [← hf]; funext j
    exact congrArg (fun i => m.view.read (Elt F) f i) (Rect.emb_whole_apply sh j)
  iapply (wp_load_rect 𝒱₀ (c : Thread nD τ) none Set.univ (m := m) (r := Rect.unit (s := sh) (fun _ => 0) sh.size inb)
    (S := m.view.set) (View.set_slice_subset _ _)) $$ H
  rw [hv]
  iintro H
  iapply Hk
  iexists f
  isplitr; · ipureintro; exact hf
  iexact H

/-- A store on a rectangle of a memref whose slice there is owned, at any contents. -/
theorem wp_store_owns {sh : Shape} {e : EltTy} (m : Memref sig .tc .vmem sh e) (r : Rect sh) (hr : ∀ a, r.stride a = 1)
    (X w : r.shape.Idx → Elt F e) {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (owns (c : Thread nD τ) (m.slice r hr) fullShare X : sProp 𝕄)
      ⊢ iprop((owns (c : Thread nD τ) (m.slice r hr) fullShare w -∗ Run c (k ⟨⟩) Q) -∗ Run c (.op (.store m r w Finset.univ hx hm) k) Q) := by
  rw [owns_def, owns_def]
  iintro ⟨%f, %hf, H⟩ Hk
  iapply (wp_store 𝒱₀ (c : Thread nD τ) none Set.univ (m := m) (r := r) (Mk := Finset.univ)
    (S := (m.slice r hr).view.set) (Finset.Subset.refl _)) $$ H
  iintro H
  iapply Hk
  iexists (m.access r).write (Elt F) f w Finset.univ
  isplitr; · ipureintro; exact View.read_write_univ _ _
  iexact H

end Ops

end Cert.MoeProof

end
-- ==== Proof.Protocol.lean ====
/-
The protocol of the kernel: who the peer of a device is, the cells, what each landing hands over and with
which contents, what a device owes, and the levels of the cells.

Per device there is the barrier (signalled by the peer, one unit), five send semaphores (raised by the
device's own copies as they complete) and five receive semaphores (raised by the peer's copies). Copies 0 and 1
carry the two halves of `x`, copy 2 the router columns, copies 3 and 4 the two halves of the partial result.
-/
module

public import proofs.«01_k».proof.Proof.Held

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The peer -/

/-- The device across the first axis of the mesh. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide
def swap : Dev nD ≃ Dev nD := ⟨peer, peer, peer_peer, peer_peer⟩

theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))
theorem dev3_eq (c : Dev nD) : (⟨k0_dev3 c, k0_dev3_lt c⟩ : Dev nD) = peer c :=
  Fin.ext ((k0_dev3_eq c).trans (by revert c; decide))
theorem dev4_eq (c : Dev nD) : (⟨k0_dev4 c, k0_dev4_lt c⟩ : Dev nD) = peer c :=
  Fin.ext ((k0_dev4_eq c).trans (by revert c; decide))
theorem dev5_eq (c : Dev nD) : (⟨k0_dev5 c, k0_dev5_lt c⟩ : Dev nD) = peer c :=
  Fin.ext ((k0_dev5_eq c).trans (by revert c; decide))
theorem dev6_eq (c : Dev nD) : (⟨k0_dev6 c, k0_dev6_lt c⟩ : Dev nD) = peer c :=
  Fin.ext ((k0_dev6_eq c).trans (by revert c; decide))

/-! ## The memrefs and the halves -/

abbrev xM : Memref sig .tc .vmem S256x512 .bf16 := Memref.whole cc0_stg0_0
abbrev rM : Memref sig .tc .vmem S2x512 .f32 := Memref.whole cc0_stg1_0
abbrev aM : Memref sig .tc .vmem S2x512x1024 .f32 := Memref.whole cc0_stg2_0
abbrev bM : Memref sig .tc .vmem S2x1024x512 .f32 := Memref.whole cc0_stg3_0
abbrev oM : Memref sig .tc .vmem S256x512 .f32 := Memref.whole cc0_stg4_0
abbrev xoM : Memref sig .tc .vmem S256x512 .bf16 := Memref.whole cc0_scratch0
abbrev rvM : Memref sig .tc .vmem S2x512 .f32 := Memref.whole cc0_scratch1
abbrev psM : Memref sig .tc .vmem S256x512 .bf16 := Memref.whole cc0_scratch2
abbrev poM : Memref sig .tc .vmem S256x512 .bf16 := Memref.whole cc0_scratch3
abbrev waM : Memref sig .tc .vmem S2x512x1024 .bf16 := Memref.whole cc0_scratch4
abbrev wbM : Memref sig .tc .vmem S2x1024x512 .bf16 := Memref.whole cc0_scratch5

abbrev lo : Rect S256x512 := Rect.unit (s := S256x512) ![0, 0] S128x512.size inb_S256x512_S128x512_0_0
abbrev hi : Rect S256x512 := Rect.unit (s := S256x512) ![128, 0] S128x512.size inb_S256x512_S128x512_128_0
abbrev a0 : Rect S2x512x1024 := Rect.unit (s := S2x512x1024) ![0, 0, 0] S1x512x1024.size inb_S2x512x1024_S1x512x1024_0_0_0
abbrev a1 : Rect S2x512x1024 := Rect.unit (s := S2x512x1024) ![1, 0, 0] S1x512x1024.size inb_S2x512x1024_S1x512x1024_1_0_0
abbrev b0 : Rect S2x1024x512 := Rect.unit (s := S2x1024x512) ![0, 0, 0] S1x1024x512.size inb_S2x1024x512_S1x1024x512_0_0_0
abbrev b1 : Rect S2x1024x512 := Rect.unit (s := S2x1024x512) ![1, 0, 0] S1x1024x512.size inb_S2x1024x512_S1x1024x512_1_0_0

theorem tiles_x : Tiles2 lo hi where
  disj := Finset.disjoint_left.mpr fun i h h' => by
    have h1 : (i 0 : ℕ) < 0 + 128 := ((Rect.mem_set_unit.mp h) 0).2
    have h2 : 128 ≤ (i 0 : ℕ) := ((Rect.mem_set_unit.mp h') 0).1
    omega
  cov i := by
    have l0 : (i 0 : ℕ) < 256 := (i 0).isLt
    have l1 : (i 1 : ℕ) < 512 := (i 1).isLt
    by_cases h : (i 0 : ℕ) < 128
    · refine .inl (Rect.mem_set_unit.mpr fun a => ?_)
      match a with
      | 0 => exact ⟨Nat.zero_le _, show (i 0 : ℕ) < 0 + 128 by omega⟩
      | 1 => exact ⟨Nat.zero_le _, show (i 1 : ℕ) < 0 + 512 by omega⟩
    · refine .inr (Rect.mem_set_unit.mpr fun a => ?_)
      match a with
      | 0 => exact ⟨show 128 ≤ (i 0 : ℕ) by omega, show (i 0 : ℕ) < 128 + 128 by omega⟩
      | 1 => exact ⟨Nat.zero_le _, show (i 1 : ℕ) < 0 + 512 by omega⟩

theorem tiles_a : Tiles2 a0 a1 where
  disj := Finset.disjoint_left.mpr fun i h h' => by
    have h1 : (i 0 : ℕ) < 0 + 1 := ((Rect.mem_set_unit.mp h) 0).2
    have h2 : 1 ≤ (i 0 : ℕ) := ((Rect.mem_set_unit.mp h') 0).1
    omega
  cov i := by
    have l0 : (i 0 : ℕ) < 2 := (i 0).isLt
    have l1 : (i 1 : ℕ) < 512 := (i 1).isLt
    have l2 : (i 2 : ℕ) < 1024 := (i 2).isLt
    by_cases h : (i 0 : ℕ) < 1
    · refine .inl (Rect.mem_set_unit.mpr fun a => ?_)
      match a with
      | 0 => exact ⟨Nat.zero_le _, show (i 0 : ℕ) < 0 + 1 by omega⟩
      | 1 => exact ⟨Nat.zero_le _, show (i 1 : ℕ) < 0 + 512 by omega⟩
      | 2 => exact ⟨Nat.zero_le _, show (i 2 : ℕ) < 0 + 1024 by omega⟩
    · refine .inr (Rect.mem_set_unit.mpr fun a => ?_)
      match a with
      | 0 => exact ⟨show 1 ≤ (i 0 : ℕ) by omega, show (i 0 : ℕ) < 1 + 1 by omega⟩
      | 1 => exact ⟨Nat.zero_le _, show (i 1 : ℕ) < 0 + 512 by omega⟩
      | 2 => exact ⟨Nat.zero_le _, show (i 2 : ℕ) < 0 + 1024 by omega⟩

theorem tiles_b : Tiles2 b0 b1 where
  disj := Finset.disjoint_left.mpr fun i h h' => by
    have h1 : (i 0 : ℕ) < 0 + 1 := ((Rect.mem_set_unit.mp h) 0).2
    have h2 : 1 ≤ (i 0 : ℕ) := ((Rect.mem_set_unit.mp h') 0).1
    omega
  cov i := by
    have l0 : (i 0 : ℕ) < 2 := (i 0).isLt
    have l1 : (i 1 : ℕ) < 1024 := (i 1).isLt
    have l2 : (i 2 : ℕ) < 512 := (i 2).isLt
    by_cases h : (i 0 : ℕ) < 1
    · refine .inl (Rect.mem_set_unit.mpr fun a => ?_)
      match a with
      | 0 => exact ⟨Nat.zero_le _, show (i 0 : ℕ) < 0 + 1 by omega⟩
      | 1 => exact ⟨Nat.zero_le _, show (i 1 : ℕ) < 0 + 1024 by omega⟩
      | 2 => exact ⟨Nat.zero_le _, show (i 2 : ℕ) < 0 + 512 by omega⟩
    · refine .inr (Rect.mem_set_unit.mpr fun a => ?_)
      match a with
      | 0 => exact ⟨show 1 ≤ (i 0 : ℕ) by omega, show (i 0 : ℕ) < 1 + 1 by omega⟩
      | 1 => exact ⟨Nat.zero_le _, show (i 1 : ℕ) < 0 + 1024 by omega⟩
      | 2 => exact ⟨Nat.zero_le _, show (i 2 : ℕ) < 0 + 512 by omega⟩

abbrev half0 (M : Memref sig .tc .vmem S256x512 .bf16) : Memref sig .tc .vmem S128x512 .bf16 := M.slice lo fun _ => rfl
abbrev half1 (M : Memref sig .tc .vmem S256x512 .bf16) : Memref sig .tc .vmem S128x512 .bf16 := M.slice hi fun _ => rfl

/-! ## The contents -/

section Values

variable (c : Dev nD)

/-- What a device stages: its tokens, its router columns (as rows), its two experts' weights. -/
def xs : Vec F S256x512 .bf16 := iblk m c 0 t0_0
def rs : Vec F S2x512 .f32 := iblk m c 1 t0_0
def w1s : Vec F S2x512x1024 .f32 := iblk m c 2 t0_0
def w2s : Vec F S2x1024x512 .f32 := iblk m c 3 t0_0

/-- Its tokens' two halves, -/
def xlo : Vec F S128x512 .bf16 := fun j => xs m c (lo.emb j)
def xhi : Vec F S128x512 .bf16 := fun j => xs m c (hi.emb j)

/-- and its experts' weights rounded. -/
def wa0 : Vec F S1x512x1024 .bf16 := k0_pay1 (fun j => w1s m c (a0.emb j) : Vec F S1x512x1024 .f32)
def wa1 : Vec F S1x512x1024 .bf16 := k0_pay4 (fun j => w1s m c (a1.emb j) : Vec F S1x512x1024 .f32)
def wb0 : Vec F S1x1024x512 .bf16 := k0_pay3 (k0_pay2 (fun j => w2s m c (b0.emb j) : Vec F S1x1024x512 .f32))
def wb1 : Vec F S1x1024x512 .bf16 := k0_pay5 (fun j => w2s m c (b1.emb j) : Vec F S1x1024x512 .f32)

/-- The part of its own tokens' result that its own experts make. -/
def acc : Vec F S256x512 .f32 :=
  k0_pay20 (k0_pay7 (xs m c) (wa0 m c) (wb0 m c)) (k0_pay10 (k0_pay8 (xs m c) (wa1 m c)) (k0_pay9 (F := F)) (wb1 m c))
    (k0_pay14 (k0_pay6 (xs m c)) (rs m c) (rs m (peer c))) (k0_pay17 (k0_pay6 (xs m c)) (rs m c) (rs m (peer c)))
    (k0_pay18 (k0_pay6 (xs m c)) (rs m c) (rs m (peer c))) (k0_pay19 (F := F))

/-- The part of the first half of its peer's tokens' result that its own experts make, -/
def plo : Vec F S128x512 .bf16 :=
  k0_pay23 (xlo m (peer c)) (k0_pay21 (k0_pay11 (rs m c)) (rs m (peer c)) (xlo m (peer c))) (k0_pay22 (xlo m (peer c)) (wa0 m c))
    (wb0 m c) (wa1 m c) (wb1 m c)

/-- and of the second half. -/
def phi : Vec F S128x512 .bf16 :=
  k0_pay34
    (k0_pay31 (k0_pay26 (k0_pay11 (rs m c)) (rs m (peer c)) (xhi m (peer c))) (k0_pay29 (k0_pay11 (rs m c)) (rs m (peer c)) (xhi m (peer c)))
      (k0_pay30 (k0_pay11 (rs m c)) (rs m (peer c)) (xhi m (peer c))))
    (k0_pay32 (xhi m (peer c)) (wa1 m c) (wb1 m c))
    (k0_pay33 (xhi m (peer c)) (k0_pay26 (k0_pay11 (rs m c)) (rs m (peer c)) (xhi m (peer c)))
      (k0_pay29 (k0_pay11 (rs m c)) (rs m (peer c)) (xhi m (peer c))) (k0_pay30 (k0_pay11 (rs m c)) (rs m (peer c)) (xhi m (peer c)))
      (wa0 m c) (wb0 m c))

/-- The two halves of a device's result. -/
def outlo : Vec F S128x512 .f32 := k0_pay35 (acc m c) (plo m (peer c))
def outhi : Vec F S128x512 .f32 := k0_pay36 (acc m c) (phi m (peer c))

/-- A device's result. -/
def out : Vec F S256x512 .f32 := lo.overlay (hi.overlay (fun _ => (elt_nonempty (F := F) .f32).some) (outhi m c)) (outlo m c)

theorem out_lo : (fun j => out m c (lo.emb j)) = outlo m c := by funext j; unfold out; rw [Rect.overlay_emb]
theorem out_hi : (fun j => out m c (hi.emb j)) = outhi m c := by
  funext j; unfold out
  rw [Rect.overlay_of_not_mem, Rect.overlay_emb]
  exact fun h => Finset.disjoint_left.mp tiles_x.disj h (hi.map_emb_univ ▸ Finset.mem_map_of_mem _ (Finset.mem_univ j))

end Values

/-! ## The cells -/

abbrev barS : Sem sig := (SemArray.scalar (sig.barrier 0 rfl) : Sems sig S_).sem
abbrev sendS0 : DmaSem sig := (((cc0_scratch6 : DmaSems sig S5).slice (Rect.unit (s := S5) ![0] S1.size inb_S5_S1_0)).squeeze S_ squeezes_S1_S_).sem
abbrev sendS1 : DmaSem sig := (((cc0_scratch6 : DmaSems sig S5).slice (Rect.unit (s := S5) ![1] S1.size inb_S5_S1_1)).squeeze S_ squeezes_S1_S_).sem
abbrev sendS2 : DmaSem sig := (((cc0_scratch6 : DmaSems sig S5).slice (Rect.unit (s := S5) ![2] S1.size inb_S5_S1_2)).squeeze S_ squeezes_S1_S_).sem
abbrev sendS3 : DmaSem sig := (((cc0_scratch6 : DmaSems sig S5).slice (Rect.unit (s := S5) ![3] S1.size inb_S5_S1_3)).squeeze S_ squeezes_S1_S_).sem
abbrev sendS4 : DmaSem sig := (((cc0_scratch6 : DmaSems sig S5).slice (Rect.unit (s := S5) ![4] S1.size inb_S5_S1_4)).squeeze S_ squeezes_S1_S_).sem
abbrev recvS0 : DmaSem sig := (((cc0_scratch7 : DmaSems sig S5).slice (Rect.unit (s := S5) ![0] S1.size inb_S5_S1_0)).squeeze S_ squeezes_S1_S_).sem
abbrev recvS1 : DmaSem sig := (((cc0_scratch7 : DmaSems sig S5).slice (Rect.unit (s := S5) ![1] S1.size inb_S5_S1_1)).squeeze S_ squeezes_S1_S_).sem
abbrev recvS2 : DmaSem sig := (((cc0_scratch7 : DmaSems sig S5).slice (Rect.unit (s := S5) ![2] S1.size inb_S5_S1_2)).squeeze S_ squeezes_S1_S_).sem
abbrev recvS3 : DmaSem sig := (((cc0_scratch7 : DmaSems sig S5).slice (Rect.unit (s := S5) ![3] S1.size inb_S5_S1_3)).squeeze S_ squeezes_S1_S_).sem
abbrev recvS4 : DmaSem sig := (((cc0_scratch7 : DmaSems sig S5).slice (Rect.unit (s := S5) ![4] S1.size inb_S5_S1_4)).squeeze S_ squeezes_S1_S_).sem

/-- A device's cells: 0 the barrier, `1 + k` its send cell of copy `k`, `6 + k` its receive cell of copy `k`. -/
abbrev sm : Fin 11 → SemLoc sig := fun
  | 0 => .reg barS
  | 1 => .dma sendS0 | 2 => .dma sendS1 | 3 => .dma sendS2 | 4 => .dma sendS3 | 5 => .dma sendS4
  | 6 => .dma recvS0 | 7 => .dma recvS1 | 8 => .dma recvS2 | 9 => .dma recvS3 | 10 => .dma recvS4

/-- Which cell a semaphore is. -/
def code (s : SemLoc sig) : Option (Fin 11) := (List.finRange 11).find? fun j => decide (s = sm j)

theorem code_sm (j : Fin 11) : code (sm j) = some j := by revert j; decide +kernel
theorem sm_inj {j j' : Fin 11} (h : sm j = sm j') : j = j' := by
  have := code_sm j; rw [h, code_sm] at this; exact (Option.some.inj this).symm

abbrev cell (c : Dev nD) (j : Fin 11) : GSem nD τ sig := ((c : Thread nD τ), sm j)

theorem cell_inj {c c' : Dev nD} {j j' : Fin 11} (h : cell c j = cell c' j') : c = c' ∧ j = j' :=
  ⟨congrArg (fun g : GSem nD τ sig => g.1.1) h, sm_inj (congrArg Prod.snd h)⟩

/-! ## The schedule -/

/-- What a landing raises each cell by. -/
def amt : Fin 11 → ℕ := fun
  | 0 => 1
  | 1 => (half0 xoM).view.dmaCredit | 2 => (half1 xoM).view.dmaCredit | 3 => (rvM : Memref sig .tc .vmem S2x512 .f32).view.dmaCredit
  | 4 => (half0 poM).view.dmaCredit | 5 => (half1 poM).view.dmaCredit
  | 6 => (half0 xoM).view.dmaCredit | 7 => (half1 xoM).view.dmaCredit | 8 => (rvM : Memref sig .tc .vmem S2x512 .f32).view.dmaCredit
  | 9 => (half0 poM).view.dmaCredit | 10 => (half1 poM).view.dmaCredit

theorem amt_pos (j : Fin 11) : 0 < amt j := by
  unfold amt
  split <;> first | exact Nat.one_pos | exact View.dmaCredit_pos _ (by decide)

/-- What the peer's barrier signal hands over: its landing buffers, and that its receive cells are open. -/
def barPay (c : Dev nD) : sProp 𝕄 :=
  iprop((∃ X, owns (c : Thread nD τ) (half0 xoM) fullShare X) ∗ (∃ X, owns (c : Thread nD τ) (half1 xoM) fullShare X)
    ∗ (∃ X, owns (c : Thread nD τ) rvM fullShare X)
    ∗ (∃ X, owns (c : Thread nD τ) (half0 poM) fullShare X) ∗ (∃ X, owns (c : Thread nD τ) (half1 poM) fullShare X)
    ∗ reached ER (cell c 6) 0 ∗ reached ER (cell c 7) 0 ∗ reached ER (cell c 8) 0 ∗ reached ER (cell c 9) 0 ∗ reached ER (cell c 10) 0)

/-- What each cell's landing hands to its device. -/
def pay (j : Fin 11) (c : Dev nD) : sProp 𝕄 := match j with
  | 0 => barPay (peer c)
  | 1 => owns (c : Thread nD τ) (half0 xM) fullShare.right (xlo m c)
  | 2 => owns (c : Thread nD τ) (half1 xM) fullShare.right (xhi m c)
  | 3 => owns (c : Thread nD τ) rM fullShare (rs m c)
  | 4 => owns (c : Thread nD τ) (half0 psM) fullShare (plo m c)
  | 5 => owns (c : Thread nD τ) (half1 psM) fullShare (phi m c)
  | 6 => owns (c : Thread nD τ) (half0 xoM) fullShare (xlo m (peer c))
  | 7 => owns (c : Thread nD τ) (half1 xoM) fullShare (xhi m (peer c))
  | 8 => owns (c : Thread nD τ) rvM fullShare (rs m (peer c))
  | 9 => owns (c : Thread nD τ) (half0 poM) fullShare (plo m (peer c))
  | 10 => owns (c : Thread nD τ) (half1 poM) fullShare (phi m (peer c))

instance barPay_storable (c : Dev nD) : BI.Storable (upEmb : UEmb _ 𝕄) (barPay (F := F) c) := by unfold barPay; infer_instance

instance pay_storable (j : Fin 11) (c : Dev nD) : BI.Storable (upEmb : UEmb _ 𝕄) (pay m j c) := by
  unfold pay; split <;> infer_instance

def moeRd : Rounds.Schedule (GSem nD τ sig) Unit 𝕄 where
  duties g r := if r = 0 ∧ g.1.2 = .tc ∧ (code g.2).isSome then {()} else ∅
  unitless _ := False
  amount g _ _ := match code g.2 with
    | some j => amt j
    | none => 1
  payload g _ _ := match code g.2 with
    | some j => pay m j g.1.1
    | none => iprop(emp)
  amount_pos g _ _ _ := by
    show 0 < (match code g.2 with | some j => amt j | none => 1)
    split
    · exact amt_pos _
    · exact Nat.one_pos

instance moeRd_storable (g : GSem nD τ sig) (r : ℕ) (d : Unit) : BI.Storable (upEmb : UEmb _ 𝕄) ((moeRd m).payload g r d) := by
  show BI.Storable upEmb (match code g.2 with | some j => pay m j g.1.1 | none => iprop(emp))
  split <;> infer_instance

section Sched
variable (c : Dev nD) (j : Fin 11)

theorem duties_cell : (moeRd m).duties (cell c j) 0 = {()} := by
  dsimp only [moeRd]; exact if_pos ⟨rfl, rfl, by rw [code_sm]; rfl⟩
theorem mem_duties : () ∈ (moeRd m).duties (cell c j) 0 := by rw [duties_cell]; exact Finset.mem_singleton_self _
theorem duties_later (g : GSem nD τ sig) : ∀ r, 1 ≤ r → (moeRd m).duties g r = ∅ :=
  fun r hr => by dsimp only [moeRd]; exact if_neg fun h => by omega
theorem amount_cell (u : Unit) : (moeRd m).amount (cell c j) 0 u = amt j := by dsimp only [moeRd]; rw [code_sm]
theorem payload_cell (u : Unit) : (moeRd m).payload (cell c j) 0 u = pay m j c := by dsimp only [moeRd]; rw [code_sm]
theorem expect_cell : (moeRd m).expect (cell c j) 0 = amt j := by
  unfold Schedule.expect Schedule.amountOf; rw [duties_cell, Finset.sum_singleton, amount_cell]
theorem rest_cell : bigSep ((moeRd m).duties (cell c j) 0 \ ∅) (fun u => (moeRd m).payload (cell c j) 0 u) = pay m j c := by
  rw [Finset.sdiff_empty, duties_cell, bigSep_singleton, payload_cell]

end Sched

/-! ## What a device owes, and the levels -/

/-- The levels: a send cell 0, the barrier 1, the receive cells of what is sent first 2, of the partial results 3. -/
def lvl : Fin 11 → ℕ := fun
  | 0 => 1
  | 6 => 2 | 7 => 2 | 8 => 2
  | 9 => 3 | 10 => 3
  | _ => 0

def L (g : GSem nD τ sig) : Finset Unit := if g.1.2 = .tc then {()} else ∅
def lv (g : GSem nD τ sig) (_ : Unit) : ℕ := match code g.2 with
  | some j => lvl j
  | none => 0

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (j : Fin 11) (u : Unit) : lv (cell c j) u = lvl j := by dsimp only [lv]; rw [code_sm]

/-- Everything owed is above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O : CellTallies nD τ sig Unit} (hO : Above n O) (c : Dev nD) (j : Fin 11) (k : ℕ) (hj : n < lvl j) :
    Above n (O + tallyAt (cell c j) () k) := fun g u h => by
  rw [Pi.add_apply, Finsupp.add_apply, tallyAt_apply] at h
  by_cases hg : g = cell c j ∧ u = ()
  · rw [hg.1, hg.2]; exact ⟨by rw [L_tc]; exact Finset.mem_singleton_self _, by rw [lv_cell]; exact hj⟩
  · rw [if_neg hg] at h; exact hO g u h
theorem above_mono {n n' : ℕ} (h : n' ≤ n) {O : CellTallies nD τ sig Unit} (hO : Above n O) : Above n' O :=
  fun g u hg => ⟨(hO g u hg).1, lt_of_le_of_lt h (hO g u hg).2⟩

theorem mayWait_of (c : Dev nD) (s : SemLoc sig) (n : ℕ) (hn : lv ((c : Thread nD τ), s) () ≤ n) {O : CellTallies nD τ sig Unit} (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hn) (fun g u hg => (hO g u hg).2)

/-- What device `c` still owes its peer: `o₅` before the last copy … `o₀` at launch. -/
abbrev owe5 : CellTallies nD τ sig Unit := 0
abbrev owe4 (c : Dev nD) : CellTallies nD τ sig Unit := owe5 + tallyAt (cell (peer c) 10) () (amt 10)
abbrev owe3 (c : Dev nD) : CellTallies nD τ sig Unit := owe4 c + tallyAt (cell (peer c) 9) () (amt 9)
abbrev owe2 (c : Dev nD) : CellTallies nD τ sig Unit := owe3 c + tallyAt (cell (peer c) 8) () (amt 8)
abbrev owe1 (c : Dev nD) : CellTallies nD τ sig Unit := owe2 c + tallyAt (cell (peer c) 7) () (amt 7)
abbrev owe0 (c : Dev nD) : CellTallies nD τ sig Unit := owe1 c + tallyAt (cell (peer c) 6) () (amt 6)
def O₀ (c : Dev nD) : CellTallies nD τ sig Unit := owe0 c + tallyAt (cell (peer c) 0) () (amt 0)

theorem above5 (n : ℕ) : Above n owe5 := above_zero n
theorem above4 (c : Dev nD) : Above 2 (owe4 c) := above_add (above5 2) _ _ _ (by decide)
theorem above3 (c : Dev nD) : Above 2 (owe3 c) := above_add (above4 c) _ _ _ (by decide)
theorem above0 (c : Dev nD) : Above 1 (owe0 c) :=
  above_add (above_add (above_add (above_mono (by decide) (above3 c)) _ _ _ (by decide)) _ _ _ (by decide)) _ _ _ (by decide)
theorem aboveO₀ (c : Dev nD) : Above 0 (O₀ c) := above_add (above_mono (by decide) (above0 c)) _ _ _ (by decide)

/-! ## Signalling, waiting and sending on the cells -/

section Steps

variable (K : Dev nD × Fin 11 → ℕ)

/-- Device `c`'s cell `j` is governed by the schedule. -/
abbrev inv (c : Dev nD) (j : Fin 11) : sProp 𝕄 := cellInv ER (moeRd m) (K (c, j)) (cell c j)

/-- What device `c` owes, whatever it has waited for. -/
abbrev st (c : Dev nD) (O : CellTallies nD τ sig Unit) : sProp 𝕄 := iprop(∃ W : Waits sig Unit, owes (c : Thread nD τ) O W)

/-- The right to wait on cell `j`, before the wait and after it. -/
abbrev waits (c : Dev nD) (j : Fin 11) : sProp 𝕄 := iprop(inv m K c j ∗ atPos ER (cell c j) 0 ∅ 0)
abbrev waited (c : Dev nD) (j : Fin 11) : sProp 𝕄 := iprop(inv m K c j ∗ atPos ER (cell c j) 1 ∅ 0)

/-- The right to one copy: its own send cell `i` and the peer's receive cell `j`. -/
abbrev sends (c : Dev nD) (i j : Fin 11) : sProp 𝕄 :=
  iprop(inv m K c i ∗ inv m K (peer c) j ∗ dutyTok ER (cell c i) 0 () ∗ reached ER (cell c i) 0 ∗ dutyTok ER (cell (peer c) j) 0 ())

variable {α : Type} (c : Dev nD)

/-- Waiting on one of its cells, a device gets what the landing hands over. -/
theorem wp_wait_cell (j : Fin 11) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (sm j) (amt j) Kt)
    {O : CellTallies nD τ sig Unit} (n : ℕ) (hn : lvl j ≤ n) (hO : Above n O)
    {k : PUnit → Prog (TpuEff nD τ sig (Elt F) Λ₀ .tc) α} {Q : α → sProp 𝕄} :
    (iprop(levAts L lv ∗ waits m K c j ∗ cred (tallyAt (cell c j) () (amt j)) ∗ st c O) : sProp 𝕄)
      ⊢ iprop(((waited m K c j ∗ st c O ∗ pay m j c) -∗ Run c (k ⟨⟩) Q) -∗ Run c (.op w k) Q) := by
  iintro ⟨#Hlev, ⟨#Hinv, Hat⟩, Hcr, ⟨%W, HO⟩⟩ Hk
  iapply (Rounds.wp_wait_rest_token 𝒱₀ ER (moeRd m) (c : Thread nD τ) none (κ := K (c, j)) hw (Set.mem_univ _) ()
    (O := O) (W := W) (R := 0) (m := 0) (T := ∅) (by rw [expect_cell, zero_add])) $$ [Hcr HO Hat]
  · isplitr; · iexact Hinv
    isplitl [Hcr]; · iexact Hcr
    isplitl [HO]; · iexact HO
    isplitr; · iapply (mayWait_of c (sm j) n (by rw [lv_cell]; exact hn) hO); iexact Hlev
    iexact Hat
  · rw [rest_cell]
    iintro ⟨HO, Hat, -, Hpay⟩
    iapply Hk
    isplitl [Hat]
    · isplitr; · iexact Hinv
      iexact Hat
    isplitl [HO]
    · iexists _; iexact HO
    iexact Hpay

/-- The barrier signal. -/
theorem wp_signal_peer (n : Dev nD) (hn : n = peer c) (O : CellTallies nD τ sig Unit)
    {k : PUnit → Prog (TpuEff nD τ sig (Elt F) Λ₀ .tc) α} {Q : α → sProp 𝕄} :
    (iprop(inv m K (peer c) 0 ∗ dutyTok ER (cell (peer c) 0) 0 () ∗ reached ER (cell (peer c) 0) 0 ∗ barPay c
        ∗ st c (O + tallyAt (cell (peer c) 0) () (amt 0))) : sProp 𝕄)
      ⊢ iprop((st c O -∗ Run c (k ⟨⟩) Q) -∗ Run c (.op (.semSignal (Dev.tc n : Thread nD τ) barS 1) k) Q) := by
  subst hn
  iintro ⟨#Hinv, Htok, #Hr, Hpay, ⟨%W, HO⟩⟩ Hk
  iapply (Rounds.wp_signal 𝒱₀ ER (moeRd m) (c : Thread nD τ) none (dst := (peer c : Thread nD τ)) (sem := barS) (r := 0) (d := ())
    (κ := K (peer c, 0)) (mem_duties m (peer c) 0) (amount_cell m (peer c) 0 ()) () O rfl (W := W)) $$ [Htok Hpay HO]
  · isplitr; · iexact Hinv
    isplitl [HO]; · iexact HO
    isplitl [Htok]; · iexact Htok
    isplitl [Hpay]
    · have he : (moeRd m).payload ((peer c : Thread nD τ), .reg barS) 0 () = barPay c := by
        refine (payload_cell m (peer c) 0 ()).trans ?_
        show barPay (peer (peer c)) = barPay c
        rw [peer_peer]
      rw [he]; iexact Hpay
    iexact Hr
  · iintro HO
    iapply Hk
    iexists W; iexact HO

/-- One copy to the peer: the source comes back at the send cell, the destination goes to the peer's receive cell. -/
theorem wp_send_cell (i j : Fin 11) (s v : DmaSem sig) (hi : sm i = .dma s) (hj : sm j = .dma v) (n : Dev nD) (hn : n = peer c)
    {sh : Shape} {e : EltTy} (src dst : Memref sig .tc .vmem sh e) (q : PosShare TreeShare) (X : sh.Idx → Elt F e) {hsc : dst.view.ref.isScScratch = false}
    {hsrc : src.view.WordExact} {hdst : dst.view.WordExact}
    {hsem : DmaTarget.Typed .vmem (.dma v) (.remote (Dev.tc n : Thread nD τ) dst (.dma s) hsc)}
    (hai : amt i = dst.view.amount (.dma v)) (haj : amt j = dst.view.amount (.dma v))
    (hpi : owns (c : Thread nD τ) src q X ⊢ pay m i c) (hpj : owns (peer c : Thread nD τ) dst fullShare X ⊢ pay m j (peer c))
    (O : CellTallies nD τ sig Unit)
    {k : PUnit → Prog (TpuEff nD τ sig (Elt F) Λ₀ .tc) α} {Q : α → sProp 𝕄} :
    (iprop(sends m K c i j ∗ reached ER (cell (peer c) j) 0 ∗ owns (c : Thread nD τ) src q X ∗ (∃ Y, owns (peer c : Thread nD τ) dst fullShare Y)
        ∗ st c (O + tallyAt (cell (peer c) j) () (amt j))) : sProp 𝕄)
      ⊢ iprop(((cred (tallyAt (cell c i) () (amt i)) ∗ st c O) -∗ Run c (k ⟨⟩) Q)
          -∗ Run c (.op (.enqueueDma src (.remote (Dev.tc n : Thread nD τ) dst (.dma s) hsc) (.dma v) hsrc hdst hsem) k) Q) := by
  subst hn
  have hci : cell c i = ((c : Thread nD τ), .dma s) := by rw [← hi]
  have hcj : cell (peer c) j = ((peer c : Thread nD τ), .dma v) := by rw [← hj]
  have d1 : () ∈ (moeRd m).duties ((c : Thread nD τ), .dma s) 0 := hci ▸ mem_duties m c i
  have d2 : () ∈ (moeRd m).duties ((peer c : Thread nD τ), .dma v) 0 := hcj ▸ mem_duties m (peer c) j
  have e1 : (moeRd m).amount ((c : Thread nD τ), .dma s) 0 () = amt i := hci ▸ amount_cell m c i ()
  have e2 : (moeRd m).amount ((peer c : Thread nD τ), .dma v) 0 () = amt j := hcj ▸ amount_cell m (peer c) j ()
  have p1 : (moeRd m).payload ((c : Thread nD τ), .dma s) 0 () = pay m i c := hci ▸ payload_cell m c i ()
  have p2 : (moeRd m).payload ((peer c : Thread nD τ), .dma v) 0 () = pay m j (peer c) := hcj ▸ payload_cell m (peer c) j ()
  unfold sends inv
  rw [hci, hcj, owns_def]
  simp only [owns_def]
  iintro ⟨⟨#Hi, #Hj, Ht1, #Hr1, Ht2⟩, #Hr2, ⟨%fs, %hfs, Hsrc⟩, ⟨%Y, %fd, %hfd, Hdst⟩, ⟨%W, HO⟩⟩ Hk
  have q1 : (src.view.loc (c : Thread nD τ) ↦[src.view.set]{q} fs) ⊢ (moeRd m).payload ((c : Thread nD τ), .dma s) 0 () := by
    rw [p1]
    refine .trans ?_ hpi
    rw [owns_def]
    iintro H
    iexists fs
    isplitr; · ipureintro; exact hfs
    iexact H
  have q2 : (dst.view.loc (peer c : Thread nD τ) ↦[dst.view.set]{fullShare} (dst.view.write (Elt F) fd (src.view.read (Elt F) fs) Finset.univ))
      ⊢ (moeRd m).payload ((peer c : Thread nD τ), .dma v) 0 () := by
    rw [p2]
    refine .trans ?_ hpj
    rw [owns_def]
    iintro H
    iexists dst.view.write (Elt F) fd (src.view.read (Elt F) fs) Finset.univ
    isplitr; · ipureintro; exact (View.read_write_univ _ _).trans hfs
    iexact H
  have hij : amt j = amt i := haj.trans hai.symm
  iapply (Rounds.wp_send_pointsTo 𝒱₀ ER (moeRd m) (c : Thread nD τ) none (c' := (peer c : Thread nD τ)) (src := src) (dst := dst)
    (sS := .dma s) (sem := .dma v) (q := q) (fs := fs) (fd := fd) (κ₁ := K (c, i)) (κ₂ := K (peer c, j)) (r₁ := 0) (r₂ := 0) (d₁ := ()) (d₂ := ())
    d1 d2 () () (amt i) hai.symm e1 (e2.trans hij)
    (O₀ := O + tallyAt ((peer c : Thread nD τ), .dma v) () (amt j)) O (by rw [hij]) (W := W) q1 q2) $$ [Ht1 Ht2 Hsrc Hdst HO]
  · isplitr; · iexact Hi
    isplitr; · iexact Hj
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  · iintro ⟨Hcr, HO⟩
    iapply Hk
    isplitl [Hcr]; · iexact Hcr
    iexists W; iexact HO

end Steps

end Cert.MoeProof

end
-- ==== Proof.Body.lean ====
/-
The kernel's body, part by part: what each part of it takes and what it leaves.
-/
module

public import proofs.«01_k».proof.Proof.Protocol

@[expose] public section

set_option maxRecDepth 16384

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × Fin 11 → ℕ) (c : Dev nD)

theorem hz2 : (![0, 0] : Fin 2 → ℕ) = fun _ => 0 := funext fun a => by fin_cases a <;> rfl

abbrev holds {sh : Shape} {e : EltTy} (c : Dev nD) (M : Memref sig .tc .vmem sh e) (X : sh.Idx → Elt F e) : sProp 𝕄 := owns (c : Thread nD τ) M fullShare X
abbrev any {sh : Shape} {e : EltTy} (c : Dev nD) (M : Memref sig .tc .vmem sh e) : sProp 𝕄 := iprop(∃ X : sh.Idx → Elt F e, owns (c : Thread nD τ) M fullShare X)
abbrev lent {sh : Shape} {e : EltTy} (c : Dev nD) (M : Memref sig .tc .vmem sh e) (X : sh.Idx → Elt F e) : sProp 𝕄 := owns (c : Thread nD τ) M fullShare.right X
abbrev kept {sh : Shape} {e : EltTy} (c : Dev nD) (M : Memref sig .tc .vmem sh e) (X : sh.Idx → Elt F e) : sProp 𝕄 := owns (c : Thread nD τ) M fullShare.left X
abbrev crd (c : Dev nD) (j : Fin 11) : sProp 𝕄 := cred (tallyAt (cell c j) () (amt j))
abbrev open0 (c : Dev nD) (j : Fin 11) : sProp 𝕄 := reached ER (cell c j) 0

abbrev sA0 : Memref sig .tc .vmem S1x512x1024 .f32 := aM.slice a0 fun _ => rfl
abbrev sA1 : Memref sig .tc .vmem S1x512x1024 .f32 := aM.slice a1 fun _ => rfl
abbrev sB0 : Memref sig .tc .vmem S1x1024x512 .f32 := bM.slice b0 fun _ => rfl
abbrev sB1 : Memref sig .tc .vmem S1x1024x512 .f32 := bM.slice b1 fun _ => rfl
abbrev sWa0 : Memref sig .tc .vmem S1x512x1024 .bf16 := waM.slice a0 fun _ => rfl
abbrev sWa1 : Memref sig .tc .vmem S1x512x1024 .bf16 := waM.slice a1 fun _ => rfl
abbrev sWb0 : Memref sig .tc .vmem S1x1024x512 .bf16 := wbM.slice b0 fun _ => rfl
abbrev sWb1 : Memref sig .tc .vmem S1x1024x512 .bf16 := wbM.slice b1 fun _ => rfl
abbrev sO0 : Memref sig .tc .vmem S128x512 .f32 := oM.slice lo fun _ => rfl
abbrev sO1 : Memref sig .tc .vmem S128x512 .f32 := oM.slice hi fun _ => rfl

/-- The two slots of the staged weights. -/
abbrev w1s0 : Vec F S1x512x1024 .f32 := fun j => w1s m c (a0.emb j)
abbrev w1s1 : Vec F S1x512x1024 .f32 := fun j => w1s m c (a1.emb j)
abbrev w2s0 : Vec F S1x1024x512 .f32 := fun j => w2s m c (b0.emb j)
abbrev w2s1 : Vec F S1x1024x512 .f32 := fun j => w2s m c (b1.emb j)

theorem sent0 : (half0 xM).view.dmaCredit = amt 1 := by rfl
theorem sent1 : (half1 xM).view.dmaCredit = amt 2 := by rfl
theorem sent2 : (rM : Memref sig .tc .vmem S2x512 .f32).view.dmaCredit = amt 3 := by rfl
theorem sent3 : (half0 psM).view.dmaCredit = amt 4 := by rfl
theorem sent4 : (half1 psM).view.dmaCredit = amt 5 := by rfl

/-- Waiting on a copy's semaphore. -/
theorem wp_wait_dma {α : Type} (j : Fin 11) {sp sp' : Space} {s s' : Shape} {e e' : EltTy} {sem : DmaSem sig}
    {src : Memref sig .tc sp' s' e'} {dst : Memref sig .tc sp s e} {hsrc : src.view.WordExact} {hdst : dst.view.WordExact}
    (hs : (.dma sem : SemLoc sig) = sm j) (hd : dst.view.dmaCredit = amt j)
    {O : CellTallies nD τ sig Unit} (n : ℕ) (hn : lvl j ≤ n) (hO : Above n O)
    {k : PUnit → Prog (TpuEff nD τ sig (Elt F) Λ₀ .tc) α} {Q : α → sProp 𝕄} :
    (iprop(levAts L lv ∗ waits m K c j ∗ crd c j ∗ st c O) : sProp 𝕄)
      ⊢ iprop(((waited m K c j ∗ st c O ∗ pay m j c) -∗ Run c (k ⟨⟩) Q) -∗ Run c (.op (.waitDma2 sem src dst hsrc hdst) k) Q) :=
  wp_wait_cell m K c j (fun Kt => by rw [wpE_waitDma2_eq, hs, hd]) n hn hO

theorem run_ret {α : Type} (a : α) (Q : α → sProp 𝕄) : Q a ⊢ Run c (.ret a) Q := by
  unfold Run
  rw [wp_ret]
  iintro H
  imodintro
  iexact H

/-- Part 1: the barrier, and the copy of the first half of the tokens. -/
theorem part1 (Kt : (Σ' (d0 : Dev nD) (v5 : BitVec 32) (v8 : BitVec 32) (v9 : BitVec 32), BitVec 32) → sProp 𝕄) :
    (iprop((levAts L lv ∗ inv m K (peer c) 0 ∗ dutyTok ER (cell (peer c) 0) 0 () ∗ open0 (peer c) 0 ∗ barPay c ∗ waits m K c 0 ∗ crd c 0 ∗ sends m K c 1 6 ∗ lent c (half0 xM) (xlo m c) ∗ st c (O₀ c))
      ∗ (∀ v5 v8 v9 v16, (waited m K c 0 ∗ any (peer c) (half1 xoM) ∗ any (peer c) rvM ∗ any (peer c) (half0 poM) ∗ any (peer c) (half1 poM) ∗ open0 (peer c) 7 ∗ open0 (peer c) 8 ∗ open0 (peer c) 9 ∗ open0 (peer c) 10 ∗ crd c 1 ∗ st c (owe1 c)) -∗ Kt ⟨c, v5, v8, v9, v16⟩)) : sProp 𝕄)
      ⊢ Run c (k0_part1 xM (Memref.isWhole_whole _) rM (Memref.isWhole_whole _) aM (Memref.isWhole_whole _) bM (Memref.isWhole_whole _)
          oM (Memref.isWhole_whole _) xoM (Memref.isWhole_whole _) rvM (Memref.isWhole_whole _) psM (Memref.isWhole_whole _)
          poM (Memref.isWhole_whole _) waM (Memref.isWhole_whole _) wbM (Memref.isWhole_whole _) cc0_scratch6 cc0_scratch7 ) Kt := by
  rw [k0_part1_eq_skeleton]; unfold k0_part1_skel
  simp only [Prog.lift, Prog.bind_op, Prog.bind_ret, Prog.pure_eq_ret, semSignalWord, semWaitWord, wp_deviceId]
  unfold O₀
  iintro ⟨⟨#Hlev, #HIp, Htp, #Hrp, Hbar, Hw0, Hc0, Hs, Hx, HO⟩, Hk⟩
  iapply (wp_signal_peer m K c _ (dev1_eq c) (owe0 c)) $$ [Htp Hbar HO]
  · isplitr; · iexact HIp
    isplitl [Htp]; · iexact Htp
    isplitr; · iexact Hrp
    isplitl [Hbar]; · iexact Hbar
    iexact HO
  iintro HO
  iapply (wp_wait_cell m K c 0 (wpE_semWait_eq 𝒱₀ (c : Thread nD τ) none Set.univ) 1 (by decide) (above0 c)) $$ [Hw0 Hc0 HO]
  · isplitr; · iexact Hlev
    isplitl [Hw0]; · iexact Hw0
    isplitl [Hc0]; · iexact Hc0
    iexact HO
  iintro ⟨Hw0, HO, Hpay⟩
  ihave Hp := (Entails.of_eq (show pay m 0 c = barPay (peer c) from rfl)) $$ Hpay
  unfold barPay
  icases Hp with ⟨Hxo0, Hxo1, Hrv, Hpo0, Hpo1, Hr6, Hr7, Hr8, Hr9, Hr10⟩
  iapply (wp_send_cell m K c 1 6 _ _ rfl rfl _ (dev2_eq c) (half0 xM) (half0 xoM) _ (xlo m c) rfl rfl .rfl (Entails.of_eq (by rw [pay, peer_peer])) (owe1 c)) $$ [Hs Hr6 Hx Hxo0 HO]
  · isplitl [Hs]; · iexact Hs
    isplitl [Hr6]; · iexact Hr6
    isplitl [Hx]; · iexact Hx
    isplitl [Hxo0]; · iexact Hxo0
    iexact HO
  iintro ⟨Hc1, HO⟩
  iapply run_ret
  iapply Hk
  isplitl [Hw0]; · iexact Hw0
  isplitl [Hxo1]; · iexact Hxo1
  isplitl [Hrv]; · iexact Hrv
  isplitl [Hpo0]; · iexact Hpo0
  isplitl [Hpo1]; · iexact Hpo1
  isplitl [Hr7]; · iexact Hr7
  isplitl [Hr8]; · iexact Hr8
  isplitl [Hr9]; · iexact Hr9
  isplitl [Hr10]; · iexact Hr10
  isplitl [Hc1]; · iexact Hc1
  iexact HO

/-- Part 2: the copies of the second half of the tokens and of the router, and half of the rounding of the first expert. -/
theorem part2 (v5 v8 v9 v16 : BitVec 32) (Kt : (Σ' (v59 : FVec F S1024x512 .bf16), Vec F S1x1024x512 .bf16) → sProp 𝕄) :
    (iprop((sends m K c 2 7 ∗ open0 (peer c) 7 ∗ lent c (half1 xM) (xhi m c) ∗ any (peer c) (half1 xoM) ∗ sends m K c 3 8 ∗ open0 (peer c) 8 ∗ holds c rM (rs m c) ∗ any (peer c) rvM ∗ holds c sA0 (w1s0 m c) ∗ holds c sB0 (w2s0 m c) ∗ any c sWa0 ∗ any c sWb0 ∗ st c (owe1 c))
      ∗ (∀ v60, (crd c 2 ∗ crd c 3 ∗ holds c sA0 (w1s0 m c) ∗ holds c sB0 (w2s0 m c) ∗ holds c sWa0 (wa0 m c) ∗ any c sWb0 ∗ st c (owe3 c)) -∗ Kt ⟨k0_pay2 (w2s0 m c), v60⟩)) : sProp 𝕄)
      ⊢ Run c (k0_part2 xM (Memref.isWhole_whole _) rM (Memref.isWhole_whole _) aM (Memref.isWhole_whole _) bM (Memref.isWhole_whole _)
          oM (Memref.isWhole_whole _) xoM (Memref.isWhole_whole _) rvM (Memref.isWhole_whole _) psM (Memref.isWhole_whole _)
          poM (Memref.isWhole_whole _) waM (Memref.isWhole_whole _) wbM (Memref.isWhole_whole _) cc0_scratch6 cc0_scratch7 c v5 v8 v9 v16) Kt := by
  rw [k0_part2_eq_skeleton]; unfold k0_part2_skel
  simp only [Prog.lift, Prog.bind_op, Prog.bind_ret, Prog.pure_eq_ret, semSignalWord, semWaitWord, wp_deviceId]
  iintro ⟨⟨Hs2, Hr7, Hx1, Hxo1, Hs3, Hr8, Hr, Hrv, HA0, HB0, ⟨%Xa, HWa0⟩, ⟨%Xb, HWb0⟩, HO⟩, Hk⟩
  iapply (wp_send_cell m K c 2 7 _ _ rfl rfl _ (dev3_eq c) (half1 xM) (half1 xoM) _ (xhi m c) rfl rfl .rfl (Entails.of_eq (by rw [pay, peer_peer])) (owe2 c)) $$ [Hs2 Hr7 Hx1 Hxo1 HO]
  · isplitl [Hs2]; · iexact Hs2
    isplitl [Hr7]; · iexact Hr7
    isplitl [Hx1]; · iexact Hx1
    isplitl [Hxo1]; · iexact Hxo1
    iexact HO
  iintro ⟨Hc2, HO⟩
  iapply (wp_send_cell m K c 3 8 _ _ rfl rfl _ (dev4_eq c) rM rvM _ (rs m c) rfl rfl .rfl (Entails.of_eq (by rw [pay, peer_peer])) (owe3 c)) $$ [Hs3 Hr8 Hr Hrv HO]
  · isplitl [Hs3]; · iexact Hs3
    isplitl [Hr8]; · iexact Hr8
    isplitl [Hr]; · iexact Hr
    isplitl [Hrv]; · iexact Hrv
    iexact HO
  iintro ⟨Hc3, HO⟩
  iapply (wp_load_owns c aM a0 (fun _ => rfl) (w1s0 m c)) $$ HA0
  iintro HA0
  iapply (wp_load_owns c waM a0 (fun _ => rfl) Xa) $$ HWa0
  iintro HWa0
  iapply (wp_store_owns c waM a0 (fun _ => rfl) _ _) $$ HWa0
  iintro HWa0
  ihave HWa0 := (Entails.of_eq (show holds c sWa0 (k0_pay1 (w1s0 m c)) = holds c sWa0 (wa0 m c) from rfl)) $$ HWa0
  iapply (wp_load_owns c bM b0 (fun _ => rfl) (w2s0 m c)) $$ HB0
  iintro HB0
  iapply (wp_load_owns c wbM b0 (fun _ => rfl) Xb) $$ HWb0
  iintro HWb0
  ihave HWb0 := (show holds c sWb0 Xb ⊢ any c sWb0 from exists_intro (Φ := fun X => holds c sWb0 X) Xb) $$ HWb0
  iapply run_ret
  iapply Hk
  isplitl [Hc2]; · iexact Hc2
  isplitl [Hc3]; · iexact Hc3
  isplitl [HA0]; · iexact HA0
  isplitl [HB0]; · iexact HB0
  isplitl [HWa0]; · iexact HWa0
  isplitl [HWb0]; · iexact HWb0
  iexact HO

/-- Part 3: the rest of the rounding of the experts, and most of the device's own part of its result. -/
theorem part3 (v60 : Vec F S1x1024x512 .bf16) (Kt : (Σ' (v76 : FVec F S256x512 .bf16) (v85 : FVec F S256x512 .f32) (v88 : FVec F S256x1024 .f32), FVec F S256x1024 .f32) → sProp 𝕄) :
    (iprop((any c sWb0 ∗ holds c sA1 (w1s1 m c) ∗ any c sWa1 ∗ holds c sB1 (w2s1 m c) ∗ any c sWb1 ∗ kept c xM (xs m c) ∗ holds c sWa0 (wa0 m c))
      ∗ ((holds c sWb0 (wb0 m c) ∗ holds c sA1 (w1s1 m c) ∗ holds c sWa1 (wa1 m c) ∗ holds c sB1 (w2s1 m c) ∗ holds c sWb1 (wb1 m c) ∗ kept c xM (xs m c) ∗ holds c sWa0 (wa0 m c)) -∗ Kt ⟨k0_pay6 (xs m c), k0_pay7 (xs m c) (wa0 m c) (wb0 m c), k0_pay8 (xs m c) (wa1 m c), k0_pay9⟩)) : sProp 𝕄)
      ⊢ Run c (k0_part3 xM (Memref.isWhole_whole _) rM (Memref.isWhole_whole _) aM (Memref.isWhole_whole _) bM (Memref.isWhole_whole _)
          oM (Memref.isWhole_whole _) xoM (Memref.isWhole_whole _) rvM (Memref.isWhole_whole _) psM (Memref.isWhole_whole _)
          poM (Memref.isWhole_whole _) waM (Memref.isWhole_whole _) wbM (Memref.isWhole_whole _) cc0_scratch6 cc0_scratch7 (k0_pay2 (w2s0 m c)) v60) Kt := by
  rw [k0_part3_eq_skeleton]; unfold k0_part3_skel
  simp only [Prog.lift, Prog.bind_op, Prog.bind_ret, Prog.pure_eq_ret, semSignalWord, semWaitWord, wp_deviceId]
  iintro ⟨⟨⟨%Xb, HWb0⟩, HA1, ⟨%Xa, HWa1⟩, HB1, ⟨%Xb1, HWb1⟩, Hx, HWa0⟩, Hk⟩
  iapply (wp_store_owns c wbM b0 (fun _ => rfl) _ _) $$ HWb0
  iintro HWb0
  ihave HWb0 := (Entails.of_eq (show holds c sWb0 (k0_pay3 (k0_pay2 (w2s0 m c))) = holds c sWb0 (wb0 m c) from rfl)) $$ HWb0
  iapply (wp_load_owns c aM a1 (fun _ => rfl) (w1s1 m c)) $$ HA1
  iintro HA1
  iapply (wp_load_owns c waM a1 (fun _ => rfl) Xa) $$ HWa1
  iintro HWa1
  iapply (wp_store_owns c waM a1 (fun _ => rfl) _ _) $$ HWa1
  iintro HWa1
  ihave HWa1 := (Entails.of_eq (show holds c sWa1 (k0_pay4 (w1s1 m c)) = holds c sWa1 (wa1 m c) from rfl)) $$ HWa1
  iapply (wp_load_owns c bM b1 (fun _ => rfl) (w2s1 m c)) $$ HB1
  iintro HB1
  iapply (wp_load_owns c wbM b1 (fun _ => rfl) Xb1) $$ HWb1
  iintro HWb1
  iapply (wp_store_owns c wbM b1 (fun _ => rfl) _ _) $$ HWb1
  iintro HWb1
  ihave HWb1 := (Entails.of_eq (show holds c sWb1 (k0_pay5 (w2s1 m c)) = holds c sWb1 (wb1 m c) from rfl)) $$ HWb1
  iapply (wp_load_full c xM hz2 inb_S256x512_S256x512_0_0 (xs m c)) $$ Hx
  iintro Hx
  iapply (wp_load_owns c waM a0 (fun _ => rfl) (wa0 m c)) $$ HWa0
  iintro HWa0
  iapply (wp_load_owns c wbM b0 (fun _ => rfl) (wb0 m c)) $$ HWb0
  iintro HWb0
  iapply (wp_load_owns c waM a1 (fun _ => rfl) (wa1 m c)) $$ HWa1
  iintro HWa1
  iapply run_ret
  iapply Hk
  isplitl [HWb0]; · iexact HWb0
  isplitl [HA1]; · iexact HA1
  isplitl [HWa1]; · iexact HWa1
  isplitl [HB1]; · iexact HB1
  isplitl [HWb1]; · iexact HWb1
  isplitl [Hx]; · iexact Hx
  iexact HWa0

/-- Part 4: the peer's router columns arrive, and the weights of the device's own tokens. -/
theorem part4 (v5 v8 v9 : BitVec 32) (v76 : FVec F S256x512 .bf16) (v88 v89 : FVec F S256x1024 .f32) (Kt : (Σ' (v94 : FVec F S256x512 .f32) (v106 : FVec F S2x512 .f32) (v107 : Vec F S2x512 .f32) (v115 : IVec S256x4 1) (v121 : IVec S256x4 1) (v123 : FVec F S256x1 .f32), FVec F S256x1 .f32) → sProp 𝕄) :
    (iprop((levAts L lv ∗ holds c sWb1 (wb1 m c) ∗ waits m K c 3 ∗ crd c 3 ∗ waits m K c 8 ∗ crd c 8 ∗ st c (owe3 c))
      ∗ ((holds c sWb1 (wb1 m c) ∗ waited m K c 3 ∗ waited m K c 8 ∗ holds c rM (rs m c) ∗ holds c rvM (rs m (peer c)) ∗ st c (owe3 c)) -∗ Kt ⟨k0_pay10 v88 v89 (wb1 m c), k0_pay11 (rs m c), rs m (peer c), k0_pay14 v76 (rs m c) (rs m (peer c)), k0_pay17 v76 (rs m c) (rs m (peer c)), k0_pay18 v76 (rs m c) (rs m (peer c)), k0_pay19⟩)) : sProp 𝕄)
      ⊢ Run c (k0_part4 xM (Memref.isWhole_whole _) rM (Memref.isWhole_whole _) aM (Memref.isWhole_whole _) bM (Memref.isWhole_whole _)
          oM (Memref.isWhole_whole _) xoM (Memref.isWhole_whole _) rvM (Memref.isWhole_whole _) psM (Memref.isWhole_whole _)
          poM (Memref.isWhole_whole _) waM (Memref.isWhole_whole _) wbM (Memref.isWhole_whole _) cc0_scratch6 cc0_scratch7 v5 v8 v9 v76 v88 v89) Kt := by
  rw [k0_part4_eq_skeleton]; unfold k0_part4_skel
  simp only [Prog.lift, Prog.bind_op, Prog.bind_ret, Prog.pure_eq_ret, semSignalWord, semWaitWord, wp_deviceId]
  iintro ⟨⟨#Hlev, HWb1, Hw3, Hc3, Hw8, Hc8, HO⟩, Hk⟩
  iapply (wp_load_owns c wbM b1 (fun _ => rfl) (wb1 m c)) $$ HWb1
  iintro HWb1
  iapply (wp_wait_dma m K c 3 rfl sent2 2 (by decide) (above3 c)) $$ [Hw3 Hc3 HO]
  · isplitr; · iexact Hlev
    isplitl [Hw3]; · iexact Hw3
    isplitl [Hc3]; · iexact Hc3
    iexact HO
  iintro ⟨Hw3, HO, Hr⟩
  ihave Hr := (Entails.of_eq (show pay m 3 c = holds c rM (rs m c) from rfl)) $$ Hr
  iapply (wp_wait_dma m K c 8 rfl rfl 2 (by decide) (above3 c)) $$ [Hw8 Hc8 HO]
  · isplitr; · iexact Hlev
    isplitl [Hw8]; · iexact Hw8
    isplitl [Hc8]; · iexact Hc8
    iexact HO
  iintro ⟨Hw8, HO, Hrv⟩
  ihave Hrv := (Entails.of_eq (show pay m 8 c = holds c rvM (rs m (peer c)) from rfl)) $$ Hrv
  iapply (wp_load_full c rM hz2 inb_S2x512_S2x512_0_0 (rs m c)) $$ Hr
  iintro Hr
  iapply (wp_load_full c rvM hz2 inb_S2x512_S2x512_0_0 (rs m (peer c))) $$ Hrv
  iintro Hrv
  iapply run_ret
  iapply Hk
  isplitl [HWb1]; · iexact HWb1
  isplitl [Hw3]; · iexact Hw3
  isplitl [Hw8]; · iexact Hw8
  isplitl [Hr]; · iexact Hr
  isplitl [Hrv]; · iexact Hrv
  iexact HO

/-- Part 5: the device's own part of its result; the first half of the tokens has been sent. -/
theorem part5 (v5 v8 v9 : BitVec 32) (v85 v94 : FVec F S256x512 .f32) (v115 v121 : IVec S256x4 1) (v123 v124 : FVec F S256x1 .f32) (Kt : FVec F S256x512 .f32 → sProp 𝕄) :
    (iprop((levAts L lv ∗ waits m K c 1 ∗ crd c 1 ∗ st c (owe3 c))
      ∗ ((waited m K c 1 ∗ lent c (half0 xM) (xlo m c) ∗ st c (owe3 c)) -∗ Kt (k0_pay20 v85 v94 v115 v121 v123 v124))) : sProp 𝕄)
      ⊢ Run c (k0_part5 xM (Memref.isWhole_whole _) rM (Memref.isWhole_whole _) aM (Memref.isWhole_whole _) bM (Memref.isWhole_whole _)
          oM (Memref.isWhole_whole _) xoM (Memref.isWhole_whole _) rvM (Memref.isWhole_whole _) psM (Memref.isWhole_whole _)
          poM (Memref.isWhole_whole _) waM (Memref.isWhole_whole _) wbM (Memref.isWhole_whole _) cc0_scratch6 cc0_scratch7 v5 v8 v9 v85 v94 v115 v121 v123 v124) Kt := by
  rw [k0_part5_eq_skeleton]; unfold k0_part5_skel
  simp only [Prog.lift, Prog.bind_op, Prog.bind_ret, Prog.pure_eq_ret, semSignalWord, semWaitWord, wp_deviceId]
  iintro ⟨⟨#Hlev, Hw1, Hc1, HO⟩, Hk⟩
  iapply (wp_wait_dma m K c 1 rfl sent0 2 (by decide) (above3 c)) $$ [Hw1 Hc1 HO]
  · isplitr; · iexact Hlev
    isplitl [Hw1]; · iexact Hw1
    isplitl [Hc1]; · iexact Hc1
    iexact HO
  iintro ⟨Hw1, HO, Hx0⟩
  ihave Hx0 := (Entails.of_eq (show pay m 1 c = lent c (half0 xM) (xlo m c) from rfl)) $$ Hx0
  iapply run_ret
  iapply Hk
  isplitl [Hw1]; · iexact Hw1
  isplitl [Hx0]; · iexact Hx0
  iexact HO

/-- Part 6: the first half of the peer's tokens arrives, and their weights. -/
theorem part6 (v106 : FVec F S2x512 .f32) (v107 : Vec F S2x512 .f32) (Kt : (Σ' (v163 : Vec F S128x512 .bf16) (v195 : FVec F S128x2 .f32), FVec F S128x1024 .bf16) → sProp 𝕄) :
    (iprop((levAts L lv ∗ waits m K c 6 ∗ crd c 6 ∗ holds c sWa0 (wa0 m c) ∗ st c (owe3 c))
      ∗ ((waited m K c 6 ∗ holds c (half0 xoM) (xlo m (peer c)) ∗ holds c sWa0 (wa0 m c) ∗ st c (owe3 c)) -∗ Kt ⟨xlo m (peer c), k0_pay21 v106 v107 (xlo m (peer c)), k0_pay22 (xlo m (peer c)) (wa0 m c)⟩)) : sProp 𝕄)
      ⊢ Run c (k0_part6 xM (Memref.isWhole_whole _) rM (Memref.isWhole_whole _) aM (Memref.isWhole_whole _) bM (Memref.isWhole_whole _)
          oM (Memref.isWhole_whole _) xoM (Memref.isWhole_whole _) rvM (Memref.isWhole_whole _) psM (Memref.isWhole_whole _)
          poM (Memref.isWhole_whole _) waM (Memref.isWhole_whole _) wbM (Memref.isWhole_whole _) cc0_scratch6 cc0_scratch7 v106 v107) Kt := by
  rw [k0_part6_eq_skeleton]; unfold k0_part6_skel
  simp only [Prog.lift, Prog.bind_op, Prog.bind_ret, Prog.pure_eq_ret, semSignalWord, semWaitWord, wp_deviceId]
  iintro ⟨⟨#Hlev, Hw6, Hc6, HWa0, HO⟩, Hk⟩
  iapply (wp_wait_dma m K c 6 rfl rfl 2 (by decide) (above3 c)) $$ [Hw6 Hc6 HO]
  · isplitr; · iexact Hlev
    isplitl [Hw6]; · iexact Hw6
    isplitl [Hc6]; · iexact Hc6
    iexact HO
  iintro ⟨Hw6, HO, Hxo0⟩
  ihave Hxo0 := (Entails.of_eq (show pay m 6 c = holds c (half0 xoM) (xlo m (peer c)) from rfl)) $$ Hxo0
  iapply (wp_load_owns c xoM lo (fun _ => rfl) (xlo m (peer c))) $$ Hxo0
  iintro Hxo0
  iapply (wp_load_owns c waM a0 (fun _ => rfl) (wa0 m c)) $$ HWa0
  iintro HWa0
  iapply run_ret
  iapply Hk
  isplitl [Hw6]; · iexact Hw6
  isplitl [Hxo0]; · iexact Hxo0
  isplitl [HWa0]; · iexact HWa0
  iexact HO

/-- Part 7: the first half of the partial result. -/
theorem part7 (v5 v8 v9 : BitVec 32) (v163 : Vec F S128x512 .bf16) (v195 : FVec F S128x2 .f32) (v201 : FVec F S128x1024 .bf16) (Kt : PUnit → sProp 𝕄) :
    (iprop((holds c sWb0 (wb0 m c) ∗ holds c sWa1 (wa1 m c) ∗ holds c sWb1 (wb1 m c) ∗ any c (half0 psM))
      ∗ ((holds c sWb0 (wb0 m c) ∗ holds c sWa1 (wa1 m c) ∗ holds c sWb1 (wb1 m c) ∗ holds c (half0 psM) (k0_pay23 v163 v195 v201 (wb0 m c) (wa1 m c) (wb1 m c))) -∗ Kt ⟨⟩)) : sProp 𝕄)
      ⊢ Run c (k0_part7 xM (Memref.isWhole_whole _) rM (Memref.isWhole_whole _) aM (Memref.isWhole_whole _) bM (Memref.isWhole_whole _)
          oM (Memref.isWhole_whole _) xoM (Memref.isWhole_whole _) rvM (Memref.isWhole_whole _) psM (Memref.isWhole_whole _)
          poM (Memref.isWhole_whole _) waM (Memref.isWhole_whole _) wbM (Memref.isWhole_whole _) cc0_scratch6 cc0_scratch7 v5 v8 v9 v163 v195 v201) Kt := by
  rw [k0_part7_eq_skeleton]; unfold k0_part7_skel
  simp only [Prog.lift, Prog.bind_op, Prog.bind_ret, Prog.pure_eq_ret, semSignalWord, semWaitWord, wp_deviceId]
  iintro ⟨⟨HWb0, HWa1, HWb1, ⟨%Xp, Hps0⟩⟩, Hk⟩
  iapply (wp_load_owns c wbM b0 (fun _ => rfl) (wb0 m c)) $$ HWb0
  iintro HWb0
  iapply (wp_load_owns c waM a1 (fun _ => rfl) (wa1 m c)) $$ HWa1
  iintro HWa1
  iapply (wp_load_owns c wbM b1 (fun _ => rfl) (wb1 m c)) $$ HWb1
  iintro HWb1
  iapply (wp_load_owns c psM lo (fun _ => rfl) Xp) $$ Hps0
  iintro Hps0
  iapply (wp_store_owns c psM lo (fun _ => rfl) _ _) $$ Hps0
  iintro Hps0
  iapply run_ret
  iapply Hk
  isplitl [HWb0]; · iexact HWb0
  isplitl [HWa1]; · iexact HWa1
  isplitl [HWb1]; · iexact HWb1
  iexact Hps0

/-- Part 8: the copy of the first half of the partial result; the second half of the peer's tokens arrives. -/
theorem part8 (v5 v8 v9 : BitVec 32) (v106 : FVec F S2x512 .f32) (v107 : Vec F S2x512 .f32) (Kt : (Σ' (v253 : Vec F S128x512 .bf16) (v261 : IVec S128x4 1) (v267 : IVec S128x4 1), FVec F S128x1 .f32) → sProp 𝕄) :
    (iprop((levAts L lv ∗ sends m K c 4 9 ∗ open0 (peer c) 9 ∗ holds c (half0 psM) (plo m c) ∗ any (peer c) (half0 poM) ∗ waits m K c 2 ∗ crd c 2 ∗ waits m K c 7 ∗ crd c 7 ∗ st c (owe3 c))
      ∗ ((crd c 4 ∗ waited m K c 2 ∗ lent c (half1 xM) (xhi m c) ∗ waited m K c 7 ∗ holds c (half1 xoM) (xhi m (peer c)) ∗ st c (owe4 c)) -∗ Kt ⟨xhi m (peer c), k0_pay26 v106 v107 (xhi m (peer c)), k0_pay29 v106 v107 (xhi m (peer c)), k0_pay30 v106 v107 (xhi m (peer c))⟩)) : sProp 𝕄)
      ⊢ Run c (k0_part8 xM (Memref.isWhole_whole _) rM (Memref.isWhole_whole _) aM (Memref.isWhole_whole _) bM (Memref.isWhole_whole _)
          oM (Memref.isWhole_whole _) xoM (Memref.isWhole_whole _) rvM (Memref.isWhole_whole _) psM (Memref.isWhole_whole _)
          poM (Memref.isWhole_whole _) waM (Memref.isWhole_whole _) wbM (Memref.isWhole_whole _) cc0_scratch6 cc0_scratch7 c v5 v8 v9 v106 v107) Kt := by
  rw [k0_part8_eq_skeleton]; unfold k0_part8_skel
  simp only [Prog.lift, Prog.bind_op, Prog.bind_ret, Prog.pure_eq_ret, semSignalWord, semWaitWord, wp_deviceId]
  iintro ⟨⟨#Hlev, Hs4, Hr9, Hps0, Hpo0, Hw2, Hc2, Hw7, Hc7, HO⟩, Hk⟩
  iapply (wp_send_cell m K c 4 9 _ _ rfl rfl _ (dev5_eq c) (half0 psM) (half0 poM) _ (plo m c) rfl rfl .rfl (Entails.of_eq (by rw [pay, peer_peer])) (owe4 c)) $$ [Hs4 Hr9 Hps0 Hpo0 HO]
  · isplitl [Hs4]; · iexact Hs4
    isplitl [Hr9]; · iexact Hr9
    isplitl [Hps0]; · iexact Hps0
    isplitl [Hpo0]; · iexact Hpo0
    iexact HO
  iintro ⟨Hc4, HO⟩
  iapply (wp_wait_dma m K c 2 rfl sent1 2 (by decide) (above4 c)) $$ [Hw2 Hc2 HO]
  · isplitr; · iexact Hlev
    isplitl [Hw2]; · iexact Hw2
    isplitl [Hc2]; · iexact Hc2
    iexact HO
  iintro ⟨Hw2, HO, Hx1⟩
  ihave Hx1 := (Entails.of_eq (show pay m 2 c = lent c (half1 xM) (xhi m c) from rfl)) $$ Hx1
  iapply (wp_wait_dma m K c 7 rfl rfl 2 (by decide) (above4 c)) $$ [Hw7 Hc7 HO]
  · isplitr; · iexact Hlev
    isplitl [Hw7]; · iexact Hw7
    isplitl [Hc7]; · iexact Hc7
    iexact HO
  iintro ⟨Hw7, HO, Hxo1⟩
  ihave Hxo1 := (Entails.of_eq (show pay m 7 c = holds c (half1 xoM) (xhi m (peer c)) from rfl)) $$ Hxo1
  iapply (wp_load_owns c xoM hi (fun _ => rfl) (xhi m (peer c))) $$ Hxo1
  iintro Hxo1
  iapply run_ret
  iapply Hk
  isplitl [Hc4]; · iexact Hc4
  isplitl [Hw2]; · iexact Hw2
  isplitl [Hx1]; · iexact Hx1
  isplitl [Hw7]; · iexact Hw7
  isplitl [Hxo1]; · iexact Hxo1
  iexact HO

/-- Part 9: the values of the second half of the partial result. -/
theorem part9 (v253 : Vec F S128x512 .bf16) (v261 v267 : IVec S128x4 1) (v269 : FVec F S128x1 .f32) (Kt : (Σ' (v285 : FVec F S128x2 .f32) (v303 : FVec F S128x512 .f32), FVec F S128x512 .f32) → sProp 𝕄) :
    (iprop((holds c sWa0 (wa0 m c) ∗ holds c sWb0 (wb0 m c) ∗ holds c sWa1 (wa1 m c) ∗ holds c sWb1 (wb1 m c))
      ∗ ((holds c sWa0 (wa0 m c) ∗ holds c sWb0 (wb0 m c) ∗ holds c sWa1 (wa1 m c) ∗ holds c sWb1 (wb1 m c)) -∗ Kt ⟨k0_pay31 v261 v267 v269, k0_pay32 v253 (wa1 m c) (wb1 m c), k0_pay33 v253 v261 v267 v269 (wa0 m c) (wb0 m c)⟩)) : sProp 𝕄)
      ⊢ Run c (k0_part9 xM (Memref.isWhole_whole _) rM (Memref.isWhole_whole _) aM (Memref.isWhole_whole _) bM (Memref.isWhole_whole _)
          oM (Memref.isWhole_whole _) xoM (Memref.isWhole_whole _) rvM (Memref.isWhole_whole _) psM (Memref.isWhole_whole _)
          poM (Memref.isWhole_whole _) waM (Memref.isWhole_whole _) wbM (Memref.isWhole_whole _) cc0_scratch6 cc0_scratch7 v253 v261 v267 v269) Kt := by
  rw [k0_part9_eq_skeleton]; unfold k0_part9_skel
  simp only [Prog.lift, Prog.bind_op, Prog.bind_ret, Prog.pure_eq_ret, semSignalWord, semWaitWord, wp_deviceId]
  iintro ⟨⟨HWa0, HWb0, HWa1, HWb1⟩, Hk⟩
  iapply (wp_load_owns c waM a0 (fun _ => rfl) (wa0 m c)) $$ HWa0
  iintro HWa0
  iapply (wp_load_owns c wbM b0 (fun _ => rfl) (wb0 m c)) $$ HWb0
  iintro HWb0
  iapply (wp_load_owns c waM a1 (fun _ => rfl) (wa1 m c)) $$ HWa1
  iintro HWa1
  iapply (wp_load_owns c wbM b1 (fun _ => rfl) (wb1 m c)) $$ HWb1
  iintro HWb1
  iapply run_ret
  iapply Hk
  isplitl [HWa0]; · iexact HWa0
  isplitl [HWb0]; · iexact HWb0
  isplitl [HWa1]; · iexact HWa1
  iexact HWb1

/-- Part 10: the copy of the second half of the partial result; the first half has been sent. -/
theorem part10 (v5 v8 v9 : BitVec 32) (v285 : FVec F S128x2 .f32) (v303 v306 : FVec F S128x512 .f32) (hph : k0_pay34 v285 v303 v306 = phi m c) (Kt : (Σ' (v336 : BitVec 32), BitVec 32) → sProp 𝕄) :
    (iprop((levAts L lv ∗ any c (half1 psM) ∗ sends m K c 5 10 ∗ open0 (peer c) 10 ∗ any (peer c) (half1 poM) ∗ waits m K c 4 ∗ crd c 4 ∗ st c (owe4 c))
      ∗ (∀ v336 v337, (crd c 5 ∗ waited m K c 4 ∗ holds c (half0 psM) (plo m c) ∗ st c owe5) -∗ Kt ⟨v336, v337⟩)) : sProp 𝕄)
      ⊢ Run c (k0_part10 xM (Memref.isWhole_whole _) rM (Memref.isWhole_whole _) aM (Memref.isWhole_whole _) bM (Memref.isWhole_whole _)
          oM (Memref.isWhole_whole _) xoM (Memref.isWhole_whole _) rvM (Memref.isWhole_whole _) psM (Memref.isWhole_whole _)
          poM (Memref.isWhole_whole _) waM (Memref.isWhole_whole _) wbM (Memref.isWhole_whole _) cc0_scratch6 cc0_scratch7 c v5 v8 v9 v285 v303 v306) Kt := by
  rw [k0_part10_eq_skeleton]; unfold k0_part10_skel
  simp only [Prog.lift, Prog.bind_op, Prog.bind_ret, Prog.pure_eq_ret, semSignalWord, semWaitWord, wp_deviceId]
  iintro ⟨⟨#Hlev, ⟨%Xp, Hps1⟩, Hs5, Hr10, Hpo1, Hw4, Hc4, HO⟩, Hk⟩
  iapply (wp_load_owns c psM hi (fun _ => rfl) Xp) $$ Hps1
  iintro Hps1
  iapply (wp_store_owns c psM hi (fun _ => rfl) _ _) $$ Hps1
  iintro Hps1
  rw [hph]
  iapply (wp_send_cell m K c 5 10 _ _ rfl rfl _ (dev6_eq c) (half1 psM) (half1 poM) _ (phi m c) rfl rfl .rfl (Entails.of_eq (by rw [pay, peer_peer])) (owe5)) $$ [Hs5 Hr10 Hps1 Hpo1 HO]
  · isplitl [Hs5]; · iexact Hs5
    isplitl [Hr10]; · iexact Hr10
    isplitl [Hps1]; · iexact Hps1
    isplitl [Hpo1]; · iexact Hpo1
    iexact HO
  iintro ⟨Hc5, HO⟩
  iapply (wp_wait_dma m K c 4 rfl sent3 2 (by decide) (above5 2)) $$ [Hw4 Hc4 HO]
  · isplitr; · iexact Hlev
    isplitl [Hw4]; · iexact Hw4
    isplitl [Hc4]; · iexact Hc4
    iexact HO
  iintro ⟨Hw4, HO, Hps0⟩
  ihave Hps0 := (Entails.of_eq (show pay m 4 c = holds c (half0 psM) (plo m c) from rfl)) $$ Hps0
  iapply run_ret
  iapply Hk
  isplitl [Hc5]; · iexact Hc5
  isplitl [Hw4]; · iexact Hw4
  isplitl [Hps0]; · iexact Hps0
  iexact HO

/-- Part 11: the partial results arrive, and the first half of the result. -/
theorem part11 (v5 v8 v9 : BitVec 32) (v148 : FVec F S256x512 .f32) (v336 v337 : BitVec 32) (Kt : FVec F S128x512 .f32 → sProp 𝕄) :
    (iprop((levAts L lv ∗ waits m K c 9 ∗ crd c 9 ∗ any c sO0 ∗ waits m K c 5 ∗ crd c 5 ∗ waits m K c 10 ∗ crd c 10 ∗ st c owe5)
      ∗ ((waited m K c 9 ∗ holds c (half0 poM) (plo m (peer c)) ∗ holds c sO0 (k0_pay35 v148 (plo m (peer c))) ∗ waited m K c 5 ∗ holds c (half1 psM) (phi m c) ∗ waited m K c 10 ∗ holds c (half1 poM) (phi m (peer c)) ∗ st c owe5) -∗ Kt (k0_pay36 v148 (phi m (peer c))))) : sProp 𝕄)
      ⊢ Run c (k0_part11 xM (Memref.isWhole_whole _) rM (Memref.isWhole_whole _) aM (Memref.isWhole_whole _) bM (Memref.isWhole_whole _)
          oM (Memref.isWhole_whole _) xoM (Memref.isWhole_whole _) rvM (Memref.isWhole_whole _) psM (Memref.isWhole_whole _)
          poM (Memref.isWhole_whole _) waM (Memref.isWhole_whole _) wbM (Memref.isWhole_whole _) cc0_scratch6 cc0_scratch7 v5 v8 v9 v148 v336 v337) Kt := by
  rw [k0_part11_eq_skeleton]; unfold k0_part11_skel
  simp only [Prog.lift, Prog.bind_op, Prog.bind_ret, Prog.pure_eq_ret, semSignalWord, semWaitWord, wp_deviceId]
  iintro ⟨⟨#Hlev, Hw9, Hc9, ⟨%Xo, Ho0⟩, Hw5, Hc5, Hw10, Hc10, HO⟩, Hk⟩
  iapply (wp_wait_dma m K c 9 rfl rfl 3 (by decide) (above5 3)) $$ [Hw9 Hc9 HO]
  · isplitr; · iexact Hlev
    isplitl [Hw9]; · iexact Hw9
    isplitl [Hc9]; · iexact Hc9
    iexact HO
  iintro ⟨Hw9, HO, Hpo0⟩
  ihave Hpo0 := (Entails.of_eq (show pay m 9 c = holds c (half0 poM) (plo m (peer c)) from rfl)) $$ Hpo0
  iapply (wp_load_owns c poM lo (fun _ => rfl) (plo m (peer c))) $$ Hpo0
  iintro Hpo0
  iapply (wp_load_owns c oM lo (fun _ => rfl) Xo) $$ Ho0
  iintro Ho0
  iapply (wp_store_owns c oM lo (fun _ => rfl) _ _) $$ Ho0
  iintro Ho0
  iapply (wp_wait_dma m K c 5 rfl sent4 3 (by decide) (above5 3)) $$ [Hw5 Hc5 HO]
  · isplitr; · iexact Hlev
    isplitl [Hw5]; · iexact Hw5
    isplitl [Hc5]; · iexact Hc5
    iexact HO
  iintro ⟨Hw5, HO, Hps1⟩
  ihave Hps1 := (Entails.of_eq (show pay m 5 c = holds c (half1 psM) (phi m c) from rfl)) $$ Hps1
  iapply (wp_wait_dma m K c 10 rfl rfl 3 (by decide) (above5 3)) $$ [Hw10 Hc10 HO]
  · isplitr; · iexact Hlev
    isplitl [Hw10]; · iexact Hw10
    isplitl [Hc10]; · iexact Hc10
    iexact HO
  iintro ⟨Hw10, HO, Hpo1⟩
  ihave Hpo1 := (Entails.of_eq (show pay m 10 c = holds c (half1 poM) (phi m (peer c)) from rfl)) $$ Hpo1
  iapply (wp_load_owns c poM hi (fun _ => rfl) (phi m (peer c))) $$ Hpo1
  iintro Hpo1
  iapply run_ret
  iapply Hk
  isplitl [Hw9]; · iexact Hw9
  isplitl [Hpo0]; · iexact Hpo0
  isplitl [Ho0]; · iexact Ho0
  isplitl [Hw5]; · iexact Hw5
  isplitl [Hps1]; · iexact Hps1
  isplitl [Hw10]; · iexact Hw10
  isplitl [Hpo1]; · iexact Hpo1
  iexact HO

end Parts

end Cert.MoeProof

end
-- ==== Proof.Whole.lean ====
/-
The kernel's whole body on one device: from what it holds when the region starts to what it holds when it ends.
-/
module

public import proofs.«01_k».proof.Proof.Body

@[expose] public section

set_option maxRecDepth 16384

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Whole

variable (K : Dev nD × Fin 11 → ℕ) (c : Dev nD)

/-- The device whose landing pays cell `j` with what device `c` does. -/
def whom (j : Fin 11) (c : Dev nD) : Dev nD := if 1 ≤ j ∧ j ≤ 5 then c else peer c

/-- Every cell of the machine is governed by the schedule. -/
def records : sProp 𝕄 := bigSep Finset.univ fun d : Dev nD × Fin 11 => inv m K d.1 d.2

instance records_persistent : BI.Persistent (records m K) := by unfold records; infer_instance

theorem inv_of (d : Dev nD) (j : Fin 11) : records m K ⊢ inv m K d j := bigSep_elim (Finset.mem_univ (d, j))

/-- What a device holds of its cells: where it stands on each, and the rights to pay. -/
def stands : sProp 𝕄 := bigSep Finset.univ fun j : Fin 11 => (atPos ER (cell c j) 0 ∅ 0 : sProp 𝕄)
def opens : sProp 𝕄 := bigSep Finset.univ fun k : Fin 10 => (open0 c k.succ : sProp 𝕄)
def pays : sProp 𝕄 := bigSep Finset.univ fun j : Fin 11 => (dutyTok ER (cell (whom j c) j) 0 () : sProp 𝕄)
def zeros : sProp 𝕄 := bigSep Finset.univ fun j : Fin 11 => (semVal (cell c j) 0 : sProp 𝕄)
def credits : sProp 𝕄 := iprop(crd c 0 ∗ crd c 6 ∗ crd c 7 ∗ crd c 8 ∗ crd c 9 ∗ crd c 10)

instance opens_persistent : BI.Persistent (opens (F := F) c) := by unfold opens; infer_instance

theorem open_of (k : Fin 10) : opens (F := F) c ⊢ open0 c k.succ := bigSep_elim (Finset.mem_univ k)

theorem bigSep_11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem stands_eq : stands (F := F) c = iprop(atPos ER (cell c 0) 0 ∅ 0 ∗ atPos ER (cell c 1) 0 ∅ 0 ∗ atPos ER (cell c 2) 0 ∅ 0 ∗ atPos ER (cell c 3) 0 ∅ 0 ∗ atPos ER (cell c 4) 0 ∅ 0 ∗ atPos ER (cell c 5) 0 ∅ 0 ∗ atPos ER (cell c 6) 0 ∅ 0 ∗ atPos ER (cell c 7) 0 ∅ 0 ∗ atPos ER (cell c 8) 0 ∅ 0 ∗ atPos ER (cell c 9) 0 ∅ 0 ∗ atPos ER (cell c 10) 0 ∅ 0) := bigSep_11 _
theorem pays_eq : pays (F := F) c = iprop(dutyTok ER (cell (peer c) 0) 0 () ∗ dutyTok ER (cell c 1) 0 () ∗ dutyTok ER (cell c 2) 0 () ∗ dutyTok ER (cell c 3) 0 () ∗ dutyTok ER (cell c 4) 0 () ∗ dutyTok ER (cell c 5) 0 () ∗ dutyTok ER (cell (peer c) 6) 0 () ∗ dutyTok ER (cell (peer c) 7) 0 () ∗ dutyTok ER (cell (peer c) 8) 0 () ∗ dutyTok ER (cell (peer c) 9) 0 () ∗ dutyTok ER (cell (peer c) 10) 0 ()) := bigSep_11 _
theorem zeros_eq : zeros (F := F) c = iprop(semVal (cell c 0) 0 ∗ semVal (cell c 1) 0 ∗ semVal (cell c 2) 0 ∗ semVal (cell c 3) 0 ∗ semVal (cell c 4) 0 ∗ semVal (cell c 5) 0 ∗ semVal (cell c 6) 0 ∗ semVal (cell c 7) 0 ∗ semVal (cell c 8) 0 ∗ semVal (cell c 9) 0 ∗ semVal (cell c 10) 0) := bigSep_11 _

theorem waits_of (j : Fin 11) : iprop(records m K ∗ atPos ER (cell c j) 0 ∅ 0) ⊢ waits m K c j := by
  iintro ⟨#HR, Ha⟩
  isplitr; · iapply (inv_of m K c j); iexact HR
  iexact Ha

theorem sends_of (i : Fin 10) (j : Fin 11) :
    iprop(records m K ∗ opens c ∗ dutyTok ER (cell c i.succ) 0 () ∗ dutyTok ER (cell (peer c) j) 0 ()) ⊢ sends m K c i.succ j := by
  iintro ⟨#HR, #HO, Ht, Hu⟩
  isplitr; · iapply (inv_of m K c i.succ); iexact HR
  isplitr; · iapply (inv_of m K (peer c) j); iexact HR
  isplitl [Ht]; · iexact Ht
  isplitr; · iapply (open_of c i); iexact HO
  iexact Hu

/-- A cell whose one landing has been waited for is closed: its counter is back, at zero. -/
theorem close_of (j : Fin 11) : waited m K c j ⊢ (|={Set.univ}=> semVal (cell c j) 0 : sProp 𝕄) :=
  Rounds.cell_close ER (moeRd m) (Set.mem_univ (K (c, j))) (fun h => h) (R := 0 + 1) (duties_later m (cell c j))

theorem close_all : iprop(waited m K c 0 ∗ waited m K c 1 ∗ waited m K c 2 ∗ waited m K c 3 ∗ waited m K c 4 ∗ waited m K c 5 ∗ waited m K c 6 ∗ waited m K c 7 ∗ waited m K c 8 ∗ waited m K c 9 ∗ waited m K c 10) ⊢ (|={Set.univ}=> zeros c : sProp 𝕄) := by
  rw [zeros_eq]
  iintro ⟨Hw0, Hw1, Hw2, Hw3, Hw4, Hw5, Hw6, Hw7, Hw8, Hw9, Hw10⟩
  imod (close_of m K c 0) $$ Hw0 with Hz0
  imod (close_of m K c 1) $$ Hw1 with Hz1
  imod (close_of m K c 2) $$ Hw2 with Hz2
  imod (close_of m K c 3) $$ Hw3 with Hz3
  imod (close_of m K c 4) $$ Hw4 with Hz4
  imod (close_of m K c 5) $$ Hw5 with Hz5
  imod (close_of m K c 6) $$ Hw6 with Hz6
  imod (close_of m K c 7) $$ Hw7 with Hz7
  imod (close_of m K c 8) $$ Hw8 with Hz8
  imod (close_of m K c 9) $$ Hw9 with Hz9
  imod (close_of m K c 10) $$ Hw10 with Hz10
  imodintro
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  isplitl [Hz8]; · iexact Hz8
  isplitl [Hz9]; · iexact Hz9
  iexact Hz10

theorem run_upd {α : Type} (a : α) (Q : α → sProp 𝕄) : (|={Set.univ}=> Q a) ⊢ Run c (.ret a) Q := by
  unfold Run
  rw [wp_ret]

theorem run_bind {α β : Type} (p : Prog (TpuEff nD τ sig (Elt F) Λ₀ .tc) α) (k : α → Prog (TpuEff nD τ sig (Elt F) Λ₀ .tc) β) (Q : β → sProp 𝕄) :
    Run c p (fun a => Run c (k a) Q) ⊢ Run c (p >>= k) Q := by
  unfold Run
  rw [wp_bind]

/-- A buffer at any contents as its two halves at any contents, and back. -/
theorem split_any {sh : Shape} {e : EltTy} {r₀ r₁ : Rect sh} (h₀ : ∀ a, r₀.stride a = 1) (h₁ : ∀ a, r₁.stride a = 1) (hT : Tiles2 r₀ r₁)
    (M : Memref sig .tc .vmem sh e) : any c M ⊢ (iprop(any c (M.slice r₀ h₀) ∗ any c (M.slice r₁ h₁)) : sProp 𝕄) := by
  iintro ⟨%X, H⟩
  ihave H := (owns_split2 h₀ h₁ hT c M fullShare X) $$ H
  icases H with ⟨H0, H1⟩
  isplitl [H0]
  · iexists _; iexact H0
  iexists _; iexact H1

theorem join_any {sh : Shape} {e : EltTy} {r₀ r₁ : Rect sh} (h₀ : ∀ a, r₀.stride a = 1) (h₁ : ∀ a, r₁.stride a = 1) (hT : Tiles2 r₀ r₁)
    (M : Memref sig .tc .vmem sh e) (X₀ : r₀.shape.Idx → Elt F e) (X₁ : r₁.shape.Idx → Elt F e) :
    iprop(holds c (M.slice r₀ h₀) X₀ ∗ holds c (M.slice r₁ h₁) X₁) ⊢ (any c M : sProp 𝕄) :=
  owns_join2_any h₀ h₁ hT c M fullShare X₀ X₁

/-- A device's tokens: the share it keeps, and the two halves it lends to the copies. -/
theorem split_x : holds c xM (xs m c) ⊢ (iprop(kept c xM (xs m c) ∗ lent c (half0 xM) (xlo m c) ∗ lent c (half1 xM) (xhi m c)) : sProp 𝕄) := by
  iintro H
  ihave H := (owns_halves (c : Thread nD τ) xM fullShare (xs m c)).1 $$ H
  icases H with ⟨Hl, Hr⟩
  isplitl [Hl]; · iexact Hl
  iapply (owns_split2 (fun _ => rfl) (fun _ => rfl) tiles_x c xM fullShare.right (xs m c)) $$ Hr

theorem join_x : iprop(kept c xM (xs m c) ∗ lent c (half0 xM) (xlo m c) ∗ lent c (half1 xM) (xhi m c)) ⊢ (holds c xM (xs m c) : sProp 𝕄) := by
  iintro ⟨Hl, Hr⟩
  iapply (owns_halves (c : Thread nD τ) xM fullShare (xs m c)).2
  isplitl [Hl]; · iexact Hl
  icases Hr with ⟨H0, H1⟩
  iapply (owns_join2 (fun _ => rfl) (fun _ => rfl) tiles_x c xM fullShare.right (xs m c))
  isplitl [H0]; · iexact H0
  iexact H1

theorem join_out : iprop(holds c sO0 (outlo m c) ∗ holds c sO1 (outhi m c)) ⊢ (holds c oM (out m c) : sProp 𝕄) := by
  rw [← out_lo, ← out_hi]
  exact owns_join2 (fun _ => rfl) (fun _ => rfl) tiles_x c oM fullShare (out m c)

/-- The buffers of the region before the body and after it. -/
def before : sProp 𝕄 :=
  iprop(holds c xM (xs m c) ∗ holds c rM (rs m c) ∗ holds c aM (w1s m c) ∗ holds c bM (w2s m c) ∗ any c oM
    ∗ any c xoM ∗ any c rvM ∗ any c psM ∗ any c poM ∗ any c waM ∗ any c wbM)
def afterwards : sProp 𝕄 :=
  iprop(holds c xM (xs m c) ∗ holds c rM (rs m c) ∗ holds c aM (w1s m c) ∗ holds c bM (w2s m c) ∗ holds c oM (out m c)
    ∗ any c xoM ∗ any c rvM ∗ any c psM ∗ any c poM ∗ any c waM ∗ any c wbM)

theorem barPay_of : (iprop(any c (half0 xoM) ∗ any c (half1 xoM) ∗ any c rvM ∗ any c (half0 poM) ∗ any c (half1 poM)
    ∗ open0 c 6 ∗ open0 c 7 ∗ open0 c 8 ∗ open0 c 9 ∗ open0 c 10) : sProp 𝕄) ⊢ barPay c := by unfold barPay; exact .rfl

set_option maxHeartbeats 1000000 in
/-- THE BODY. -/
theorem body_run (Q : PUnit → sProp 𝕄) :
    (iprop((levAts L lv ∗ records m K ∗ open0 (peer c) 0 ∗ stands c ∗ opens c ∗ pays c ∗ credits c ∗ before m c ∗ st c (O₀ c))
      ∗ ((zeros c ∗ afterwards m c ∗ st c owe5) -∗ Q ⟨⟩)) : sProp 𝕄)
      ⊢ Run c (cc0_body xM (Memref.isWhole_whole _) rM (Memref.isWhole_whole _) aM (Memref.isWhole_whole _) bM (Memref.isWhole_whole _)
          oM (Memref.isWhole_whole _) xoM (Memref.isWhole_whole _) rvM (Memref.isWhole_whole _) psM (Memref.isWhole_whole _)
          poM (Memref.isWhole_whole _) waM (Memref.isWhole_whole _) wbM (Memref.isWhole_whole _) cc0_scratch6 cc0_scratch7) Q := by
  rw [cc0_body_eq_skeleton, stands_eq, pays_eq]
  unfold cc0_body_skel credits before afterwards
  iintro ⟨⟨#Hlev, #HR, #Hrp, ⟨Ha0, Ha1, Ha2, Ha3, Ha4, Ha5, Ha6, Ha7, Ha8, Ha9, Ha10⟩, #Hop, ⟨Ht0, Ht1, Ht2, Ht3, Ht4, Ht5, Ht6, Ht7, Ht8, Ht9, Ht10⟩, ⟨Hc0, Hc6, Hc7, Hc8, Hc9, Hc10⟩,
    ⟨Hx, Hr, Ha, Hb, Ho, Hxo, Hrv, Hps, Hpo, HWa, HWb⟩, HO⟩, Hk⟩
  ihave Hw0 := (waits_of m K c 0) $$ [Ha0]
  · isplitr; · iexact HR
    iexact Ha0
  ihave Hw1 := (waits_of m K c 1) $$ [Ha1]
  · isplitr; · iexact HR
    iexact Ha1
  ihave Hw2 := (waits_of m K c 2) $$ [Ha2]
  · isplitr; · iexact HR
    iexact Ha2
  ihave Hw3 := (waits_of m K c 3) $$ [Ha3]
  · isplitr; · iexact HR
    iexact Ha3
  ihave Hw4 := (waits_of m K c 4) $$ [Ha4]
  · isplitr; · iexact HR
    iexact Ha4
  ihave Hw5 := (waits_of m K c 5) $$ [Ha5]
  · isplitr; · iexact HR
    iexact Ha5
  ihave Hw6 := (waits_of m K c 6) $$ [Ha6]
  · isplitr; · iexact HR
    iexact Ha6
  ihave Hw7 := (waits_of m K c 7) $$ [Ha7]
  · isplitr; · iexact HR
    iexact Ha7
  ihave Hw8 := (waits_of m K c 8) $$ [Ha8]
  · isplitr; · iexact HR
    iexact Ha8
  ihave Hw9 := (waits_of m K c 9) $$ [Ha9]
  · isplitr; · iexact HR
    iexact Ha9
  ihave Hw10 := (waits_of m K c 10) $$ [Ha10]
  · isplitr; · iexact HR
    iexact Ha10
  ihave Hs1 := (sends_of m K c 0 6) $$ [Ht1 Ht6]
  · isplitr; · iexact HR
    isplitr; · iexact Hop
    isplitl [Ht1]; · iexact Ht1
    iexact Ht6
  ihave Hs2 := (sends_of m K c 1 7) $$ [Ht2 Ht7]
  · isplitr; · iexact HR
    isplitr; · iexact Hop
    isplitl [Ht2]; · iexact Ht2
    iexact Ht7
  ihave Hs3 := (sends_of m K c 2 8) $$ [Ht3 Ht8]
  · isplitr; · iexact HR
    isplitr; · iexact Hop
    isplitl [Ht3]; · iexact Ht3
    iexact Ht8
  ihave Hs4 := (sends_of m K c 3 9) $$ [Ht4 Ht9]
  · isplitr; · iexact HR
    isplitr; · iexact Hop
    isplitl [Ht4]; · iexact Ht4
    iexact Ht9
  ihave Hs5 := (sends_of m K c 4 10) $$ [Ht5 Ht10]
  · isplitr; · iexact HR
    isplitr; · iexact Hop
    isplitl [Ht5]; · iexact Ht5
    iexact Ht10
  ihave HIp := (inv_of m K (peer c) 0) $$ HR
  ihave Hq6 := (open_of (F := F) c 5) $$ Hop
  ihave Hq7 := (open_of (F := F) c 6) $$ Hop
  ihave Hq8 := (open_of (F := F) c 7) $$ Hop
  ihave Hq9 := (open_of (F := F) c 8) $$ Hop
  ihave Hq10 := (open_of (F := F) c 9) $$ Hop
  ihave Hx := (split_x m c) $$ Hx
  icases Hx with ⟨Hxl, Hx0, Hx1⟩
  ihave Ha := (owns_split2 (fun _ => rfl) (fun _ => rfl) tiles_a c aM fullShare (w1s m c)) $$ Ha
  icases Ha with ⟨HA0, HA1⟩
  ihave Hb := (owns_split2 (fun _ => rfl) (fun _ => rfl) tiles_b c bM fullShare (w2s m c)) $$ Hb
  icases Hb with ⟨HB0, HB1⟩
  ihave Ho := (split_any c (fun _ => rfl) (fun _ => rfl) tiles_x oM) $$ Ho
  icases Ho with ⟨Ho0, Ho1⟩
  ihave Hxo := (split_any c (fun _ => rfl) (fun _ => rfl) tiles_x xoM) $$ Hxo
  icases Hxo with ⟨Hyo0, Hyo1⟩
  ihave Hps := (split_any c (fun _ => rfl) (fun _ => rfl) tiles_x psM) $$ Hps
  icases Hps with ⟨Hps0, Hps1⟩
  ihave Hpo := (split_any c (fun _ => rfl) (fun _ => rfl) tiles_x poM) $$ Hpo
  icases Hpo with ⟨Hqo0, Hqo1⟩
  ihave HWa := (split_any c (fun _ => rfl) (fun _ => rfl) tiles_a waM) $$ HWa
  icases HWa with ⟨HWa0, HWa1⟩
  ihave HWb := (split_any c (fun _ => rfl) (fun _ => rfl) tiles_b wbM) $$ HWb
  icases HWb with ⟨HWb0, HWb1⟩
  ihave Hbar := (barPay_of (F := F) c) $$ [Hyo0 Hyo1 Hrv Hqo0 Hqo1 Hq6 Hq7 Hq8 Hq9 Hq10]
  · isplitl [Hyo0]; · iexact Hyo0
    isplitl [Hyo1]; · iexact Hyo1
    isplitl [Hrv]; · iexact Hrv
    isplitl [Hqo0]; · iexact Hqo0
    isplitl [Hqo1]; · iexact Hqo1
    isplitl [Hq6]; · iexact Hq6
    isplitl [Hq7]; · iexact Hq7
    isplitl [Hq8]; · iexact Hq8
    isplitl [Hq9]; · iexact Hq9
    iexact Hq10
  iapply run_bind
  iapply (part1 m K c _)
  isplitl [Ht0 Hbar Hw0 Hc0 Hs1 Hx0 HO]
  · isplitr; · iexact Hlev
    isplitr; · iexact HIp
    isplitl [Ht0]; · iexact Ht0
    isplitr; · iexact Hrp
    isplitl [Hbar]; · iexact Hbar
    isplitl [Hw0]; · iexact Hw0
    isplitl [Hc0]; · iexact Hc0
    isplitl [Hs1]; · iexact Hs1
    isplitl [Hx0]; · iexact Hx0
    iexact HO
  iintro %v5 %v8 %v9 %v16
  iintro ⟨Hw0, Hxo1, Hrv, Hpo0, Hpo1, Hr7, Hr8, Hr9, Hr10, Hc1, HO⟩
  iapply run_bind
  iapply (part2 m K c v5 v8 v9 v16 _)
  isplitl [Hs2 Hr7 Hx1 Hxo1 Hs3 Hr8 Hr Hrv HA0 HB0 HWa0 HWb0 HO]
  · isplitl [Hs2]; · iexact Hs2
    isplitl [Hr7]; · iexact Hr7
    isplitl [Hx1]; · iexact Hx1
    isplitl [Hxo1]; · iexact Hxo1
    isplitl [Hs3]; · iexact Hs3
    isplitl [Hr8]; · iexact Hr8
    isplitl [Hr]; · iexact Hr
    isplitl [Hrv]; · iexact Hrv
    isplitl [HA0]; · iexact HA0
    isplitl [HB0]; · iexact HB0
    isplitl [HWa0]; · iexact HWa0
    isplitl [HWb0]; · iexact HWb0
    iexact HO
  iintro %v60
  iintro ⟨Hc2, Hc3, HA0, HB0, HWa0, HWb0, HO⟩
  iapply run_bind
  iapply (part3 m c v60 _)
  isplitl [HWb0 HA1 HWa1 HB1 HWb1 Hxl HWa0]
  · isplitl [HWb0]; · iexact HWb0
    isplitl [HA1]; · iexact HA1
    isplitl [HWa1]; · iexact HWa1
    isplitl [HB1]; · iexact HB1
    isplitl [HWb1]; · iexact HWb1
    isplitl [Hxl]; · iexact Hxl
    iexact HWa0
  iintro ⟨HWb0, HA1, HWa1, HB1, HWb1, Hxl, HWa0⟩
  iapply run_bind
  iapply (part4 m K c v5 v8 v9 _ _ _ _)
  isplitl [HWb1 Hw3 Hc3 Hw8 Hc8 HO]
  · isplitr; · iexact Hlev
    isplitl [HWb1]; · iexact HWb1
    isplitl [Hw3]; · iexact Hw3
    isplitl [Hc3]; · iexact Hc3
    isplitl [Hw8]; · iexact Hw8
    isplitl [Hc8]; · iexact Hc8
    iexact HO
  iintro ⟨HWb1, Hw3, Hw8, Hr, Hrv, HO⟩
  iapply run_bind
  iapply (part5 m K c v5 v8 v9 _ _ _ _ _ _ _)
  isplitl [Hw1 Hc1 HO]
  · isplitr; · iexact Hlev
    isplitl [Hw1]; · iexact Hw1
    isplitl [Hc1]; · iexact Hc1
    iexact HO
  iintro ⟨Hw1, Hx0, HO⟩
  iapply run_bind
  iapply (part6 m K c _ _ _)
  isplitl [Hw6 Hc6 HWa0 HO]
  · isplitr; · iexact Hlev
    isplitl [Hw6]; · iexact Hw6
    isplitl [Hc6]; · iexact Hc6
    isplitl [HWa0]; · iexact HWa0
    iexact HO
  iintro ⟨Hw6, Hxo0, HWa0, HO⟩
  iapply run_bind
  iapply (part7 m c v5 v8 v9 _ _ _ _)
  isplitl [HWb0 HWa1 HWb1 Hps0]
  · isplitl [HWb0]; · iexact HWb0
    isplitl [HWa1]; · iexact HWa1
    isplitl [HWb1]; · iexact HWb1
    iexact Hps0
  iintro ⟨HWb0, HWa1, HWb1, Hps0⟩
  ihave Hps0 := (Entails.of_eq (show holds c (half0 psM) (k0_pay23 (xlo m (peer c)) (k0_pay21 (k0_pay11 (rs m c)) (rs m (peer c)) (xlo m (peer c))) (k0_pay22 (xlo m (peer c)) (wa0 m c)) (wb0 m c) (wa1 m c) (wb1 m c)) = holds c (half0 psM) (plo m c) from rfl)) $$ Hps0
  iapply run_bind
  iapply (part8 m K c v5 v8 v9 _ _ _)
  isplitl [Hs4 Hr9 Hps0 Hpo0 Hw2 Hc2 Hw7 Hc7 HO]
  · isplitr; · iexact Hlev
    isplitl [Hs4]; · iexact Hs4
    isplitl [Hr9]; · iexact Hr9
    isplitl [Hps0]; · iexact Hps0
    isplitl [Hpo0]; · iexact Hpo0
    isplitl [Hw2]; · iexact Hw2
    isplitl [Hc2]; · iexact Hc2
    isplitl [Hw7]; · iexact Hw7
    isplitl [Hc7]; · iexact Hc7
    iexact HO
  iintro ⟨Hc4, Hw2, Hx1, Hw7, Hxo1, HO⟩
  iapply run_bind
  iapply (part9 m c _ _ _ _ _)
  isplitl [HWa0 HWb0 HWa1 HWb1]
  · isplitl [HWa0]; · iexact HWa0
    isplitl [HWb0]; · iexact HWb0
    isplitl [HWa1]; · iexact HWa1
    iexact HWb1
  iintro ⟨HWa0, HWb0, HWa1, HWb1⟩
  iapply run_bind
  iapply (part10 m K c v5 v8 v9 _ _ _ rfl _)
  isplitl [Hps1 Hs5 Hr10 Hpo1 Hw4 Hc4 HO]
  · isplitr; · iexact Hlev
    isplitl [Hps1]; · iexact Hps1
    isplitl [Hs5]; · iexact Hs5
    isplitl [Hr10]; · iexact Hr10
    isplitl [Hpo1]; · iexact Hpo1
    isplitl [Hw4]; · iexact Hw4
    isplitl [Hc4]; · iexact Hc4
    iexact HO
  iintro %v336 %v337
  iintro ⟨Hc5, Hw4, Hps0, HO⟩
  iapply run_bind
  iapply (part11 m K c v5 v8 v9 _ v336 v337 _)
  isplitl [Hw9 Hc9 Ho0 Hw5 Hc5 Hw10 Hc10 HO]
  · isplitr; · iexact Hlev
    isplitl [Hw9]; · iexact Hw9
    isplitl [Hc9]; · iexact Hc9
    isplitl [Ho0]; · iexact Ho0
    isplitl [Hw5]; · iexact Hw5
    isplitl [Hc5]; · iexact Hc5
    isplitl [Hw10]; · iexact Hw10
    isplitl [Hc10]; · iexact Hc10
    iexact HO
  iintro ⟨Hw9, Hpo0, Ho0, Hw5, Hps1, Hw10, Hpo1, HO⟩
  icases Ho1 with ⟨%Xo, Ho1⟩
  simp only [Prog.lift, Prog.bind_op, Prog.bind_ret, Prog.pure_eq_ret]
  iapply (wp_load_owns c oM hi (fun _ => rfl) Xo) $$ Ho1
  iintro Ho1
  iapply (wp_store_owns c oM hi (fun _ => rfl) Xo _) $$ Ho1
  iintro Ho1
  iapply run_upd
  imod (close_all m K c) $$ [Hw0 Hw1 Hw2 Hw3 Hw4 Hw5 Hw6 Hw7 Hw8 Hw9 Hw10] with Hz
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    iexact Hw10
  imodintro
  iapply Hk
  isplitl [Hz]; · iexact Hz
  isplitr [HO]
  · isplitl [Hxl Hx0 Hx1]
    · iapply (join_x m c)
      isplitl [Hxl]; · iexact Hxl
      isplitl [Hx0]; · iexact Hx0
      iexact Hx1
    isplitl [Hr]; · iexact Hr
    isplitl [HA0 HA1]
    · iapply (owns_join2 (fun _ => rfl) (fun _ => rfl) tiles_a c aM fullShare (w1s m c))
      isplitl [HA0]; · iexact HA0
      iexact HA1
    isplitl [HB0 HB1]
    · iapply (owns_join2 (fun _ => rfl) (fun _ => rfl) tiles_b c bM fullShare (w2s m c))
      isplitl [HB0]; · iexact HB0
      iexact HB1
    isplitl [Ho0 Ho1]
    · iapply (join_out m c)
      isplitl [Ho0]; · iexact Ho0
      iexact Ho1
    isplitl [Hxo0 Hxo1]
    · iapply (join_any c (fun _ => rfl) (fun _ => rfl) tiles_x xoM _ _)
      isplitl [Hxo0]; · iexact Hxo0
      iexact Hxo1
    isplitl [Hrv]; · iexists _; iexact Hrv
    isplitl [Hps0 Hps1]
    · iapply (join_any c (fun _ => rfl) (fun _ => rfl) tiles_x psM _ _)
      isplitl [Hps0]; · iexact Hps0
      iexact Hps1
    isplitl [Hpo0 Hpo1]
    · iapply (join_any c (fun _ => rfl) (fun _ => rfl) tiles_x poM _ _)
      isplitl [Hpo0]; · iexact Hpo0
      iexact Hpo1
    isplitl [HWa0 HWa1]
    · iapply (join_any c (fun _ => rfl) (fun _ => rfl) tiles_a waM _ _)
      isplitl [HWa0]; · iexact HWa0
      iexact HWa1
    iapply (join_any c (fun _ => rfl) (fun _ => rfl) tiles_b wbM _ _)
    isplitl [HWb0]; · iexact HWb0
    iexact HWb1
  iexact HO

end Whole

end Cert.MoeProof

end
-- ==== Proof.Region.lean ====
/-
The region: what it takes with it from the launch, its proof data, its body, and the segment it makes.
-/
module

public import proofs.«01_k».proof.Proof.Whole
public import Idealize.ShloMosaic.Lib.Pipeline.ValueKit

@[expose] public section

set_option maxRecDepth 16384

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The ten semaphores the kernel allocates itself; the barrier is not one of them. -/
abbrev osem : Fin 10 → SemLoc sig := fun k => sm k.succ

theorem ownSemFacts : Pipeline.OwnSemFacts spec0 osem := by decide +kernel

theorem bigSep_head (Φ : Fin 11 → sProp 𝕄) :
    bigSep Finset.univ Φ = iprop(Φ 0 ∗ bigSep Finset.univ fun k : Fin 10 => Φ k.succ) := by
  rw [bigSep_univ_eq_bigSepL [(0 : Fin 10), 1, 2, 3, 4, 5, 6, 7, 8, 9] (by decide) (by decide), bigSep_11]
  rfl

/-! ## What rides to the region, and what enters its invariant -/

section States

variable (K : Dev nD × Fin 11 → ℕ) (c : Dev nD)

/-- From the launch: the governing records, the peer's barrier open, the place on the own barrier, the rights to open
    the ten own cells and to pay the eleven landings. -/
def dealt : sProp 𝕄 :=
  iprop(records m K ∗ open0 (peer c) 0 ∗ atPos ER (cell c 0) 0 ∅ 0
    ∗ (bigSep Finset.univ fun k : Fin 10 => openTok ER (cell c k.succ)) ∗ pays c)

/-- The same once the ten cells are open. -/
def opened : sProp 𝕄 := iprop(records m K ∗ open0 (peer c) 0 ∗ stands c ∗ opens c ∗ pays c)

def Tk : sProp 𝕄 := iprop((∃ K, dealt m K c) ∗ credits c)
def Xk : sProp 𝕄 := iprop((∃ K, opened m K c) ∗ credits c ∗ levAts L lv)
def Yk : sProp 𝕄 := semVal (cell c 0) 0

theorem hopen : iprop(Tk m c ∗ Pipeline.ownSems0 osem c ∗ levAts L lv) ⊢ (|={Set.univ}=> Xk m c : sProp 𝕄) := by
  have hfam (K : Dev nD × Fin 11 → ℕ) :=
    Rounds.cells_open ER (moeRd m) (Finset.univ : Finset (Fin 10)) (fun k => cell c k.succ) (fun k => K (c, k.succ)) (Es := Set.univ) (fun _ _ => Set.mem_univ _)
  have hrec (K : Dev nD × Fin 11 → ℕ) : iprop(records m K ∗ bigSep Finset.univ fun k : Fin 10 => openTok ER (cell c k.succ))
      ⊢ (bigSep Finset.univ fun k : Fin 10 => iprop(cellInv ER (moeRd m) (K (c, k.succ)) (cell c k.succ) ∗ openTok ER (cell c k.succ)) : sProp 𝕄) :=
    bigSep_with_persistent (R := records m K) (Φ := fun k : Fin 10 => (openTok ER (cell c k.succ) : sProp 𝕄)) fun k _ => by
      iintro ⟨#HR, Ho⟩
      isplitr; · iapply (inv_of m K c k.succ); iexact HR
      iexact Ho
  have hsplit : (bigSep Finset.univ fun k : Fin 10 => iprop(atPos ER (cell c k.succ) 0 ∅ 0 ∗ reached ER (cell c k.succ) 0))
      ⊢ (iprop((bigSep Finset.univ fun k : Fin 10 => (atPos ER (cell c k.succ) 0 ∅ 0 : sProp 𝕄)) ∗ opens c) : sProp 𝕄) := by
    unfold opens; rw [bigSep_sep']
  have hstand : (iprop(atPos ER (cell c 0) 0 ∅ 0 ∗ bigSep Finset.univ fun k : Fin 10 => (atPos ER (cell c k.succ) 0 ∅ 0 : sProp 𝕄)) : sProp 𝕄) ⊢ stands c := by
    unfold stands
    exact Entails.of_eq (bigSep_head (F := F) fun j => (atPos ER (cell c j) 0 ∅ 0 : sProp 𝕄)).symm
  unfold Tk Xk dealt Pipeline.ownSems0
  iintro ⟨⟨⟨%K, #HR, #Hp, Ha, Ho, Ht⟩, Hcr⟩, Hs, #Hlev⟩
  ihave Hi := (hrec K) $$ [Ho]
  · isplitr; · iexact HR
    iexact Ho
  imod (hfam K) $$ [Hi Hs] with Hal
  · isplitl [Hi] <;> iassumption
  ihave Hal := hsplit $$ Hal
  icases Hal with ⟨Has, #Hop⟩
  ihave Hst := hstand $$ [Ha Has]
  · isplitl [Ha] <;> iassumption
  imodintro
  isplitr [Hcr]
  · iexists K; unfold opened
    isplitr; · iexact HR
    isplitr; · iexact Hp
    isplitl [Hst]; · iexact Hst
    isplitr; · iexact Hop
    iexact Ht
  isplitl [Hcr]; · iexact Hcr
  iexact Hlev

/-! ## The scratches -/

/-- The six scratches at whatever they hold. -/
def scratches : sProp 𝕄 := iprop(any c xoM ∗ any c rvM ∗ any c psM ∗ any c poM ∗ any c waM ∗ any c wbM)

theorem scratches_eq : (Pipeline.scopedRest (Ix := Unit) (Name := ℕ) (U := UU) (Lvl := ℕ) (Val := Elt F) spec0 c : sProp 𝕄) = scratches c := by
  have h (b : Ref sig .tc) : (iprop(∃ f : Buf (Elt F) ((c : Thread nD τ).loc b), ((c : Thread nD τ).loc b) ↦{fullShare} f) : sProp 𝕄)
      = iprop(∃ X : b.ty.Contents (Elt F), owns (c : Thread nD τ) (Memref.whole b) fullShare X) := by
    simp only [owns_whole']
  rw [scopedRest0_eq, h cc0_scratch0, h cc0_scratch1, h cc0_scratch2, h cc0_scratch3, h cc0_scratch4, h cc0_scratch5]
  rfl

/-! ## The proof data -/

/-- What a device's unscoped buffers hold when the region ends: the result where the output goes, the rest as the host's
    operations left it. -/
def Wf : Valuation τ sig (Elt F) :=
  Function.update (StableHlo.after hostOps0 (fun b => m (c, b))) (Proc.devRef .tc main_v3) (out m c)

/-- The invariant before the body, and after it. -/
def Φ₀ : sProp 𝕄 := iprop(Xk m c ∗ scratches c ∗ ∃ r, prngReg c r)
def Φ₁ : sProp 𝕄 := iprop(zeros c ∗ scratches c ∗ ∃ r, prngReg c r)

def dat0 : Pipeline.Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out m c
  Φ t := if t.val = 0 then Φ₀ m c else Φ₁ c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem owed_first : (dat0 m c).owed t0_0.castSucc = O₀ c := rfl
theorem owed_zero : (pdats m 0 c).owed 0 = O₀ c := rfl
theorem owed_last : (pdats m 0 c).owed (Fin.last _) = 0 := rfl

theorem owesAt_intro (t : Fin (cfg0.N + 1)) (O : CellTallies nD τ sig Unit) (h0 : (dat0 m c).owed t = O) :
    st c O ⊢ ((dat0 m c).owesAt () t : sProp 𝕄) := by
  unfold Dat.owesAt Pipeline.owesWithin Dat.bound
  rw [h0]
  iintro ⟨%W, HO⟩
  iexists W; isplitr; · ipureintro; exact fun _ _ => Or.inl trivial
  iexact HO
theorem owesAt_elim (t : Fin (cfg0.N + 1)) (O : CellTallies nD τ sig Unit) (h0 : (dat0 m c).owed t = O) :
    ((dat0 m c).owesAt () t : sProp 𝕄) ⊢ st c O := by
  unfold Dat.owesAt Pipeline.owesWithin
  rw [h0]
  iintro ⟨%W, -, HO⟩; iexists W; iexact HO

theorem body_obligation : BodyObligation (dat0 (F := F) m c) defs₀ 𝒱₀ () Set.univ := fun t => by
  obtain rfl := fin_N0 t
  rw [bigSep_W0, bigSep_W0]
  rw [show (dat0 m c).Φ t0_0.castSucc = Φ₀ m c from rfl, show (dat0 m c).Φ t0_0.succ = Φ₁ c from rfl]
  have h0 (d) : (dat0 m c).before 0 t0_0 d = xs m c := ((dat0 m c).before_in_eq_fetched 0 rfl (fun _ => rfl) (fun _ _ _ => rfl) (fun t => rfl) t0_0 d).trans rfl
  have h1 (d) : (dat0 m c).before 1 t0_0 d = rs m c := ((dat0 m c).before_in_eq_fetched 1 rfl (fun _ => rfl) (fun _ _ _ => rfl) (fun t => rfl) t0_0 d).trans rfl
  have h2 (d) : (dat0 m c).before 2 t0_0 d = w1s m c := ((dat0 m c).before_in_eq_fetched 2 rfl (fun _ => rfl) (fun _ _ _ => rfl) (fun t => rfl) t0_0 d).trans rfl
  have h3 (d) : (dat0 m c).before 3 t0_0 d = w2s m c := ((dat0 m c).before_in_eq_fetched 3 rfl (fun _ => rfl) (fun _ _ _ => rfl) (fun t => rfl) t0_0 d).trans rfl
  simp only [h0, h1, h2, h3]
  have key (K : Dev nD × Fin 11 → ℕ) := body_run m K c (fun _ => iprop(Φ₁ c ∗ (dat0 m c).owesAt () t0_0.succ
    ∗ holds c xM (xs m c) ∗ holds c rM (rs m c) ∗ holds c aM (w1s m c) ∗ holds c bM (w2s m c) ∗ holds c oM (out m c)))
  unfold Run at key
  unfold Φ₀ Xk opened
  iintro ⟨⟨⟨⟨%K, #HR, #Hp, Hst, #Hop, Ht⟩, Hcr, #Hlev⟩, Hscr, Hprng⟩, HO, ⟨%d0, Hx⟩, ⟨%d1, Hr⟩, ⟨%d2, Ha⟩, ⟨%d3, Hb⟩, ⟨%d4, Ho⟩⟩
  iapply (key K)
  unfold before afterwards Φ₁ scratches
  icases Hscr with ⟨Hs0, Hs1, Hs2, Hs3, Hs4, Hs5⟩
  ihave HO := (owesAt_elim m c t0_0.castSucc (O₀ c) rfl) $$ HO
  isplitl [Hst Ht Hcr Hx Hr Ha Hb Ho Hs0 Hs1 Hs2 Hs3 Hs4 Hs5 HO]
  · isplitr; · iexact Hlev
    isplitr; · iexact HR
    isplitr; · iexact Hp
    isplitl [Hst]; · iexact Hst
    isplitr; · iexact Hop
    isplitl [Ht]; · iexact Ht
    isplitl [Hcr]; · iexact Hcr
    isplitr [HO]
    · isplitl [Hx]; · iexact Hx
      isplitl [Hr]; · iexact Hr
      isplitl [Ha]; · iexact Ha
      isplitl [Hb]; · iexact Hb
      isplitl [Ho]; · iexists _; iexact Ho
      isplitl [Hs0]; · iexact Hs0
      isplitl [Hs1]; · iexact Hs1
      isplitl [Hs2]; · iexact Hs2
      isplitl [Hs3]; · iexact Hs3
      isplitl [Hs4]; · iexact Hs4
      iexact Hs5
    iexact HO
  iintro ⟨Hz, ⟨Hx, Hr, Ha, Hb, Ho, Hscr⟩, HO⟩
  isplitl [Hz Hscr Hprng]
  · isplitl [Hz]; · iexact Hz
    isplitl [Hscr]; · iexact Hscr
    iexact Hprng
  isplitl [HO]; · iapply (owesAt_intro m c t0_0.succ 0 rfl); iexact HO
  isplitl [Hx]; · iexact Hx
  isplitl [Hr]; · iexact Hr
  isplitl [Ha]; · iexact Ha
  isplitl [Hb]; · iexact Hb
  iexact Ho

/-! ## The arrays -/

/-- What a device's unscoped buffers hold when the region starts. -/
abbrev Ws : Valuation τ sig (Elt F) := StableHlo.after hostOps0 (fun b => m (c, b))

theorem Wf_ne (b : DevRef τ sig) (h : b ≠ Proc.devRef .tc main_v3) : Wf m c b = Ws m c b := Function.update_of_ne h _ _
theorem Wf_out : Wf m c (Proc.devRef .tc main_v3) = out m c := Function.update_self _ _ _

theorem share_eq (w : Fin cfg0.W) : (pdats m 0 c).share w = fullShare := by
  show (dat0 m c).share w = fullShare
  unfold Dat.share; split <;> rfl

theorem arr_start (w : Fin cfg0.W) : (pdats m 0 c).arrAt w 0 = Ws m c (Proc.devRef .tc (Pipeline.arrRef spec0 w)) := rfl

theorem arr_out : (dat0 m c).arrAt 4 cfg0.N = out m c := by
  refine (dat0 m c).arrAt_eq_of_after_last 4 t0_0 (by decide +kernel) _ fun j => ?_
  blk_simp
  rfl

theorem arr_end (w : Fin cfg0.W) : (pdats m 0 c).arrAt w cfg0.N = Wf m c (Proc.devRef .tc (Pipeline.arrRef spec0 w)) := by
  match w with
  | ⟨0, _⟩ => exact ((dat0 m c).arrAt_in 0 rfl _).trans (Wf_ne m c (Proc.devRef .tc main_v1) (StableHlo.devRef_ne_of_ne (by decide))).symm
  | ⟨1, _⟩ => exact ((dat0 m c).arrAt_in 1 rfl _).trans (Wf_ne m c (Proc.devRef .tc main_v2) (StableHlo.devRef_ne_of_ne (by decide))).symm
  | ⟨2, _⟩ => exact ((dat0 m c).arrAt_in 2 rfl _).trans (Wf_ne m c (Proc.devRef .tc main_arg2) (StableHlo.devRef_ne_of_ne (by decide))).symm
  | ⟨3, _⟩ => exact ((dat0 m c).arrAt_in 3 rfl _).trans (Wf_ne m c (Proc.devRef .tc main_arg3) (StableHlo.devRef_ne_of_ne (by decide))).symm
  | ⟨4, _⟩ => exact (arr_out m c).trans (Wf_out m c).symm

/-! ## The two segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The buffers that live as long as the program, and those among them the region does not stage. -/
def bufs : Finset (DevRef τ sig) := (StableHlo.tcRefs τ sig).filter fun b => ¬ b.isScoped
def unstaged : Finset (DevRef τ sig) := bufs \ Pipeline.arrRefs (τ := τ) spec0

theorem arrRefs_sub : Pipeline.arrRefs (τ := τ) spec0 ⊆ bufs := by decide +kernel

theorem unscopedBufs_held (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem ops_sub : ∀ op ∈ (hostOps0 : List (HloOp τ sig (Elt F))), op.bufs ⊆ bufs := by
  intro op h
  simp only [hostOps0, List.mem_cons, List.not_mem_nil, or_false] at h
  rcases h with rfl | rfl
  · show ({Proc.devRef .tc main_arg0, Proc.devRef .tc main_v1} : Finset (DevRef τ sig)) ⊆ bufs; decide +kernel
  · show ({Proc.devRef .tc main_arg1, Proc.devRef .tc main_v2} : Finset (DevRef τ sig)) ⊆ bufs; decide +kernel

theorem ops_fresh : ∀ op ∈ (hostOps0 : List (HloOp τ sig (Elt F))), op.fresh = ∅ :=
  List.forall_iff_forall_mem.mp hostOps0_fresh

/-- What rides beside the buffers from the launch to the region. -/
def Rk : sProp 𝕄 := iprop(Tk m c ∗ (∃ r, prngReg c r) ∗ st c (O₀ c))

/-- The host's two operations. -/
def seg0 : ℍ := Pipeline.HostSeg.ofOps _ _ _ _ _ bufs hostOps0 ops_sub ops_fresh (fun c b => m (c, b)) (Rk m)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The semaphores of the staging are none of the kernel's own. -/
theorem staging_free : ∀ (w : Fin 5) (s : Fin (spec0 w).nbuf), code (.dma ((spec0 w).sem s)) = none := by decide +kernel

theorem cut (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact aboveO₀ c g i h
  · exact absurd h (Nat.lt_irrefl 0)

theorem hin : iprop(Pipeline.scopedRest (Pipeline.pin (pcfgs (F := F)) adm 0).spec c ∗ (∃ r, prngReg c r) ∗ StableHlo.held (c.tc : Thread nD τ) ∅ (Ws m c) ∗ Xk m c)
    ⊢ (pdats m 0 c).Φ 0 := by
  have e : (Pipeline.scopedRest (Pipeline.pin (pcfgs (F := F)) adm 0).spec c : sProp 𝕄) = scratches c := scratches_eq c
  rw [show (pdats m 0 c).Φ 0 = Φ₀ m c from rfl, e]
  unfold Φ₀
  iintro ⟨Hs, Hp, -, HX⟩
  isplitl [HX]; · iexact HX
  isplitl [Hs] <;> iassumption

theorem hout : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Wf m c)
      ∗ Pipeline.ownSems0 osem c ∗ Yk c) := by
  have e : (Pipeline.scopedRest (Pipeline.pin (pcfgs (F := F)) adm 0).spec c : sProp 𝕄) = scratches c := scratches_eq c
  have ez : zeros (F := F) c = iprop(Yk c ∗ Pipeline.ownSems0 osem c) := bigSep_head (F := F) fun j => (semVal (cell c j) 0 : sProp 𝕄)
  have eh : (StableHlo.held (c.tc : Thread nD τ) ∅ (Wf m c) : sProp 𝕄) = iprop(emp) := by unfold StableHlo.held; exact BI.bigSep_empty
  rw [show (pdats m 0 c).Φ (Fin.last _) = Φ₁ c from rfl, e, eh]
  unfold Φ₁
  rw [ez]
  iintro ⟨⟨Hy, Hz⟩, Hs, Hp⟩
  isplitl [Hs]; · iexact Hs
  isplitl [Hp]; · iexact Hp
  isplitr; · iempintro
  isplitl [Hz] <;> iassumption

theorem rest_same (b : DevRef τ sig) (hb : b ∈ unstaged \ ∅) : Wf m c b = Ws m c b :=
  Wf_ne m c b fun h => by subst h; exact absurd hb (by decide +kernel)

set_option backward.isDefEq.respectTransparency.types false in
/-- The region. -/
def reg0 : ℝ𝕊 0 :=
  Pipeline.RegionSeg.ofTalk (pcfgs (F := F)) adm (pdats m) () defs₀ 𝒱₀ L lv 0 osem ownSemFacts
    ∅ unstaged (Finset.empty_subset _) kitP rfl (fun c => (body_obligation m c).loose)
    (fun _ => 0) O₀ (fun c => (owed_zero m c).trans (zero_add _).symm) (owed_last m) (fun _ => rfl) (share_eq m)
    (Ws m) (Wf m) (rest_same m)
    (Tk m) Yk (Xk m) Yk (hopen m) (hin m) (hout m)
    (fun c => by iintro H; imodintro; iexact H)
    (fun _ => 0)
    ⟨fun c w s => by rw [L_tc]; exact Finset.mem_singleton_self _, fun c w s => by dsimp only [lv]; rw [staging_free], cut m⟩
    (fun _ => iprop(emp))
    (arr_start m) (arr_end m)

end States

end Cert.MoeProof

end
-- ==== Proof.Run.lean ====
/-
The launch and the run: the cells funded and dealt to the devices, and what every execution ends with.
-/
module

public import proofs.«01_k».proof.Proof.Region

@[expose] public section

set_option maxRecDepth 16384

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the landings -/

def barEmb : Dev nD ↪ GSem nD τ sig := ⟨fun c => cell c 0, fun _ _ h => (cell_inj h).1⟩
def ownEmb : Dev nD × Fin 10 ↪ GSem nD τ sig :=
  ⟨fun d => cell d.1 d.2.succ, fun _ _ h => Prod.ext (cell_inj h).1 (Fin.succ_injective _ (cell_inj h).2)⟩
def payEmb : Dev nD × Fin 11 ↪ GSem nD τ sig × ℕ × Unit :=
  ⟨fun d => (cell d.1 d.2, 0, ()), fun _ _ h => Prod.ext (cell_inj (congrArg Prod.fst h)).1 (cell_inj (congrArg Prod.fst h)).2⟩

/-- The barriers, live from the start; the kernels' own cells, opened when the region starts; one landing per cell. -/
abbrev barCells : Finset (GSem nD τ sig) := Finset.univ.map barEmb
abbrev ownCells : Finset (GSem nD τ sig) := Finset.univ.map ownEmb
abbrev landings : Finset (GSem nD τ sig × ℕ × Unit) := Finset.univ.map payEmb

theorem cells_disjoint : Disjoint barCells ownCells := by
  rw [Finset.disjoint_left]
  intro g h₁ h₂
  obtain ⟨c, -, rfl⟩ := Finset.mem_map.mp h₁
  obtain ⟨d, -, h⟩ := Finset.mem_map.mp h₂
  exact absurd (cell_inj h).2 (Fin.succ_ne_zero _)

theorem cell_mem (d : Dev nD × Fin 11) : cell d.1 d.2 ∈ barCells ∪ ownCells := by
  obtain ⟨c, j⟩ := d
  refine Fin.cases ?_ (fun k => ?_) j
  · exact Finset.mem_union_left _ (Finset.mem_map_of_mem barEmb (Finset.mem_univ c))
  · exact Finset.mem_union_right _ (Finset.mem_map_of_mem ownEmb (Finset.mem_univ (c, k)))

/-- The ghost state everything is dealt from. -/
def u₀ : UU :=
  (initOf (Pipeline.cells (Pipeline.pin (pcfgs (F := F)) adm) cellOf_inj) (Pipeline.launchToks (Pipeline.pin (pcfgs (F := F)) adm) cellOf_inj),
    launchOf barCells ownCells landings)

/-- A resource all of which sits with device 0. -/
def atZero (X : sProp 𝕄) (c : Dev nD) : sProp 𝕄 := if c = 0 then X else iprop(emp)

theorem bigSep_atZero (X : sProp 𝕄) : bigSep Finset.univ (atZero X) = X := by
  have hrest : bigSep (Finset.univ.erase (0 : Dev nD)) (atZero X) = (BI.emp : sProp 𝕄) :=
    (bigSep_congr fun c hc => if_neg (Finset.ne_of_mem_erase hc)).trans (BI.bigSep_emp_const _)
  rw [bigSep_univ_at _ (0 : Dev nD), hrest]
  unfold atZero; rw [if_pos rfl]
  exact BI.equiv_iff.mp sep_emp

def G : Dev nD → sProp 𝕄 := atZero (BI.own (ER (launchOf barCells ownCells landings)))

/-! ## The credit each device starts with -/

/-- What device `d` owes to cell `j` of device `c`. -/
theorem owed_cell (d c : Dev nD) (j : Fin 11) (hj : j = 0 ∨ j = 6 ∨ j = 7 ∨ j = 8 ∨ j = 9 ∨ j = 10) :
    O₀ d (cell c j) () = if d = peer c then amt j else 0 := by
  have one (i : Fin 11) : (tallyAt (cell (peer d) i) () (amt i) : CellTallies nD τ sig Unit) (cell c j) () = if d = peer c ∧ j = i then amt i else 0 := by
    rw [tallyAt_apply]
    refine if_congr ⟨fun ⟨h, _⟩ => ?_, fun ⟨h, h'⟩ => ?_⟩ rfl rfl
    · exact ⟨by rw [(cell_inj h).1, peer_peer], (cell_inj h).2⟩
    · subst h h'; rw [peer_peer]; exact ⟨rfl, rfl⟩
  unfold O₀ owe0 owe1 owe2 owe3 owe4 owe5
  simp only [Pi.add_apply, Finsupp.add_apply, one, Pi.zero_apply, Finsupp.zero_apply]
  by_cases h : d = peer c
  · rcases hj with rfl | rfl | rfl | rfl | rfl | rfl <;> simp [h]
  · simp [h]

theorem launch_cell (c : Dev nD) (j : Fin 11) (hj : j = 0 ∨ j = 6 ∨ j = 7 ∨ j = 8 ∨ j = 9 ∨ j = 10) :
    tallyOn (cell c j) (launchCredit (Pipeline.owing O₀) 0 (cell c j)) = (tallyAt (cell c j) () (amt j) : CellTallies nD τ sig Unit) := by
  unfold tallyAt; refine congrArg _ (Finsupp.ext fun u => ?_); cases u
  rw [Pipeline.launchCredit_owing, Finsupp.single_eq_same, Finset.sum_congr rfl fun d _ => owed_cell d c j hj,
    Finset.sum_ite_eq' Finset.univ (peer c) fun _ => amt j, if_pos (Finset.mem_univ _)]

theorem credits_of (c : Dev nD) : (Pipeline.launchCred O₀ c : sProp 𝕄) ⊢ credits c := by
  have hS : ({sm 0, sm 6, sm 7, sm 8, sm 9, sm 10} : Finset (SemLoc sig)) ⊆ Finset.univ := Finset.subset_univ _
  unfold Pipeline.launchCred
  refine (show _ ⊢ bigSep {sm 0, sm 6, sm 7, sm 8, sm 9, sm 10} _ from BI.bigSep_subset hS).trans (Entails.of_eq ?_)
  rw [bigSep_eq_bigSepL_of_eq [sm 0, sm 6, sm 7, sm 8, sm 9, sm 10] (by decide +kernel) (by decide +kernel)]
  unfold credits
  simp only [BI.bigSepL]
  rw [launch_cell c 0 (by decide), launch_cell c 6 (by decide), launch_cell c 7 (by decide), launch_cell c 8 (by decide), launch_cell c 9 (by decide), launch_cell c 10 (by decide)]
  rfl

/-! ## Dealing -/

theorem pair {Φ Ψ : Dev nD → sProp 𝕄} : iprop(bigSep Finset.univ Φ ∗ bigSep Finset.univ Ψ) ⊢ bigSep Finset.univ fun c => iprop(Φ c ∗ Ψ c) :=
  Entails.of_eq (bigSep_sep _ _ _).symm

theorem unpair {Φ Ψ : Dev nD → sProp 𝕄} : (bigSep Finset.univ fun c => iprop(Φ c ∗ Ψ c)) ⊢ iprop(bigSep Finset.univ Φ ∗ bigSep Finset.univ Ψ) :=
  Entails.of_eq (bigSep_sep _ _ _)

/-- Who pays a cell, with the cell's number: an involution. -/
def turn : Dev nD × Fin 11 ≃ Dev nD × Fin 11 :=
  Function.Involutive.toPerm (fun d => (whom d.2 d.1, d.2)) fun d => Prod.ext (by
    show whom d.2 (whom d.2 d.1) = d.1
    unfold whom; split
    · rfl
    · exact peer_peer _) rfl

/-- The rights to pay, each handed to the device that uses it. -/
theorem pays_deal : (bigSep landings fun x => (dutyTok ER x.1 x.2.1 x.2.2 : sProp 𝕄)) ⊢ bigSep Finset.univ fun c : Dev nD => (pays c : sProp 𝕄) := by
  unfold landings
  rw [bigSep_map]
  show (bigSep Finset.univ fun d : Dev nD × Fin 11 => (dutyTok ER (cell d.1 d.2) 0 () : sProp 𝕄)) ⊢ _
  rw [bigSep_univ_equiv turn, bigSep_univ_prod]
  exact .rfl

/-- What device `c` keeps for itself. -/
def mine (c : Dev nD) : sProp 𝕄 :=
  iprop(atPos ER (cell c 0) 0 ∅ 0 ∗ (bigSep Finset.univ fun k : Fin 10 => openTok ER (cell c k.succ)) ∗ pays c)

/-- What every device may consult. -/
def common (κ : GSem nD τ sig → ℕ) : sProp 𝕄 :=
  iprop((bigSep (barCells ∪ ownCells) fun g => cellInv ER (moeRd m) (κ g) g) ∗ bigSep barCells fun g => reached ER g 0)

instance common_persistent (κ : GSem nD τ sig → ℕ) : BI.Persistent (common m κ) := by unfold common; infer_instance

theorem records_of (κ : GSem nD τ sig → ℕ) :
    (bigSep (barCells ∪ ownCells) fun g => (cellInv ER (moeRd m) (κ g) g : sProp 𝕄)) ⊢ records m (fun d => κ (cell d.1 d.2)) := by
  iintro #H
  unfold records
  iapply (bigSep_with_persistent (R := bigSep (barCells ∪ ownCells) fun g => (cellInv ER (moeRd m) (κ g) g : sProp 𝕄)) (Φ := fun _ => (BI.emp : sProp 𝕄))
    fun d _ => by
      iintro ⟨#H, -⟩
      iapply (show (bigSep (barCells ∪ ownCells) fun g => (cellInv ER (moeRd m) (κ g) g : sProp 𝕄)) ⊢ cellInv ER (moeRd m) (κ (cell d.1 d.2)) (cell d.1 d.2) from
        BI.bigSep_elim (cell_mem d)); iexact H)
  isplitr; · iexact H
  rw [BI.bigSep_emp_const]; iempintro

theorem dealt_of (κ : GSem nD τ sig → ℕ) (c : Dev nD) : iprop(common m κ ∗ mine c) ⊢ (iprop(∃ K, dealt m K c) : sProp 𝕄) := by
  unfold common mine dealt
  iintro ⟨⟨#HI, #HR⟩, Ha, Ho, Ht⟩
  iexists (fun d => κ (cell d.1 d.2))
  isplitr; · iapply (records_of m κ); iexact HI
  isplitr
  · iapply (show (bigSep barCells fun g => (reached ER g 0 : sProp 𝕄)) ⊢ reached ER (cell (peer c) 0) 0 from
      BI.bigSep_elim (Finset.mem_map_of_mem barEmb (Finset.mem_univ (peer c)))); iexact HR
  isplitl [Ha]; · iexact Ha
  isplitl [Ho] <;> iassumption

abbrev V₀ (c : Dev nD) : Valuation τ sig (Elt F) := fun b => m (c, b)
abbrev T₀ (c : Dev nD) : sProp 𝕄 := iprop(StableHlo.held (c : Thread nD τ) bufs (V₀ m c) ∗ Rk m c)
abbrev Tₙ (c : Dev nD) : sProp 𝕄 := iprop(StableHlo.held (c : Thread nD τ) bufs (Wf m c) ∗ semVal (cell c 0) 0)

/-- What a device starts with that is not ghost state of the cells. -/
def plain (c : Dev nD) : sProp 𝕄 :=
  iprop(StableHlo.held (c : Thread nD τ) bufs (V₀ m c) ∗ credits c ∗ (∃ r, prngReg c r) ∗ st c (O₀ c))

theorem T₀_of (κ : GSem nD τ sig → ℕ) (c : Dev nD) : iprop(common m κ ∗ (mine c ∗ plain m c)) ⊢ (T₀ m c : sProp 𝕄) := by
  unfold plain T₀ Rk Tk
  iintro ⟨#HC, Hm, Hh, Hcr, Hp, HO⟩
  isplitl [Hh]; · iexact Hh
  isplitl [Hm Hcr]
  · isplitl [Hm]
    · iapply (dealt_of m κ c)
      isplitr; · iexact HC
      iexact Hm
    iexact Hcr
  isplitl [Hp] <;> iassumption

theorem unscopedSems_eq (c : Dev nD) : (unscopedSems0 c : sProp 𝕄) = semVal (cell c 0) 0 := by
  unfold unscopedSems0
  rw [show (Finset.univ.filter fun s : SemLoc sig => ¬ s.isScoped .tc) = {sm 0} from by decide +kernel, BI.bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(plain m c ∗ (semVal (cell c 0) 0 ∗ G c)) : sProp 𝕄) := by
    rw [show unscopedBufs c (fun b => m ((c : Thread nD τ).loc b)) = StableHlo.held (c : Thread nD τ) bufs (V₀ m c) from unscopedBufs_held c (V₀ m c),
      unscopedSems_eq]
    unfold plain
    iintro ⟨Hh, Hus, HO, Hcr, Hp, HG⟩
    ihave Hc := (credits_of (F := F) c) $$ Hcr
    isplitl [Hh Hc HO Hp]
    · isplitl [Hh]; · iexact Hh
      isplitl [Hc]; · iexact Hc
      isplitl [Hp]; · iexists (ρ c); iexact Hp
      iexists ∅; iexact HO
    isplitl [Hus] <;> iassumption
  have hv : bigSep Finset.univ (fun c : Dev nD => (semVal (cell c 0) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c 0) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ fun k : Fin 10 => (openTok ER (cell c k.succ) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(plain m c ∗ (semVal (cell c 0) 0 ∗ G c)) : sProp 𝕄) from bigSep_mono fun c _ => hcore c) $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells ownCells landings)) from
    Entails.of_eq (bigSep_atZero (F := F) (BI.own (ER (launchOf barCells ownCells landings))))) $$ HG
  imod (Rounds.fund_launch ER (moeRd m) cells_disjoint (fun g _ h => h) landings) $$ [Hv Hu] with ⟨%κ, -, #Hinv, #Hr, Hat, Hopen, Htok⟩
  · isplitl [Hv]
    · iapply hv $$ Hv
    · iexact Hu
  imodintro
  iapply (bigSep_with_persistent (R := common m κ) (Φ := fun c => iprop(mine c ∗ plain m c)) fun c _ => T₀_of m κ c)
  isplitr
  · unfold common
    isplitr; · iexact Hinv
    iexact Hr
  iapply pair
  isplitr [HB]
  · unfold mine
    iapply pair; isplitl [Hat]; · iapply hat $$ Hat
    iapply pair; isplitl [Hopen]; · iapply hop $$ Hopen
    iapply (pays_deal (F := F)) $$ Htok
  · iexact HB

/-! ## The run -/

def segs : List (Pipeline.Seg (pcfgs (F := F)) adm (pdats m) () defs₀ 𝒱₀ L lv) := [.host (seg0 m), .region (reg0 m)]

theorem reg0_pre (c : Dev nD) : iprop(StableHlo.held (c : Thread nD τ) bufs (Ws m c) ∗ Rk m c) ⊢ (reg0 m).pre c := by
  show _ ⊢ iprop(StableHlo.held (c.tc : Thread nD τ) (Pipeline.arrRefs (τ := τ) spec0) (Ws m c) ∗ (∃ r, prngReg c r)
    ∗ (StableHlo.held (c.tc : Thread nD τ) unstaged (Ws m c) ∗ emp) ∗ Tk m c ∗ ∃ Wd, owes (c : Thread nD τ) (0 + O₀ c) Wd)
  rw [StableHlo.held_sub_split (c : Thread nD τ) arrRefs_sub (Ws m c), zero_add]
  unfold Rk
  iintro ⟨⟨Ha, Hu⟩, HT, Hp, HO⟩
  isplitl [Ha]; · iexact Ha
  isplitl [Hp]; · iexact Hp
  isplitl [Hu]
  · isplitl [Hu]; · iexact Hu
    iempintro
  isplitl [HT]; · iexact HT
  iexact HO

theorem reg0_post (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) spec0) (Wf m c) ∗ (∃ r, prngReg c r)
    ∗ (StableHlo.held (c.tc : Thread nD τ) unstaged (Wf m c) ∗ emp) ∗ Yk c ∗ ∃ Wd, owes (c : Thread nD τ) (0 : CellTallies nD τ sig Unit) Wd) ⊢ _
  unfold Tₙ Yk
  rw [StableHlo.held_sub_split (c : Thread nD τ) arrRefs_sub (Wf m c)]
  iintro ⟨Ha, -, ⟨Hu, -⟩, Hy, HO⟩
  isplitr [HO]
  · isplitr [Hy]
    · isplitl [Ha]; · iexact Ha
      iexact Hu
    iexact Hy
  iexact HO

theorem unscoped_is (s : SemLoc sig) (h : s.isScoped .tc = false) : s = sm 0 := by revert s; decide +kernel

theorem bufs_eq (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_v1) ↦{fullShare} W (Proc.devRef .tc main_v1)) ∗ (((c : Thread nD τ).loc main_v2) ↦{fullShare} W (Proc.devRef .tc main_v2))
      ∗ (((c : Thread nD τ).loc main_v3) ↦{fullShare} W (Proc.devRef .tc main_v3))) := by
  unfold StableHlo.held
  rw [bigSep_eq_bigSepL_of_eq [Proc.devRef .tc main_arg0, Proc.devRef .tc main_arg1, Proc.devRef .tc main_arg2, Proc.devRef .tc main_arg3,
    Proc.devRef .tc main_v1, Proc.devRef .tc main_v2, Proc.devRef .tc main_v3] (by decide +kernel) (by decide +kernel)]
  rfl

set_option backward.isDefEq.respectTransparency.types false in
/-- THE RUN: every execution terminates, with each device's arguments as they were, its result the one computed, and every
    semaphore of the machine at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ r.2.mem ((c : Thread nD τ).loc main_v3) = out m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; exact .rfl)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_atZero]; iexact HX)
    (T₀ := T₀ m) (Tₙ := Tₙ m)
    (hch := ⟨fun c => .rfl, fun c => reg0_pre m c, fun c => reg0_post m c⟩)
    (hinit := init m ρ)
    (QY := fun c s => ((s.mem ((c : Thread nD τ).loc main_arg0) = Wf m c (Proc.devRef .tc main_arg0)
        ∧ s.mem ((c : Thread nD τ).loc main_arg1) = Wf m c (Proc.devRef .tc main_arg1)
        ∧ s.mem ((c : Thread nD τ).loc main_arg2) = Wf m c (Proc.devRef .tc main_arg2)
        ∧ s.mem ((c : Thread nD τ).loc main_arg3) = Wf m c (Proc.devRef .tc main_arg3))
        ∧ s.mem ((c : Thread nD τ).loc main_v3) = Wf m c (Proc.devRef .tc main_v3))
      ∧ s.sem (cell c 0) = 0)
    (hfin := fun c s' => by
      dsimp only [Tₙ]; rw [bufs_eq]
      iintro ⟨⟨⟨H0, H1, H2, H3, -, -, H4⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨⟨Buf.eq_of_forall_mem_univ h0, Buf.eq_of_forall_mem_univ h1, Buf.eq_of_forall_mem_univ h2, Buf.eq_of_forall_mem_univ h3⟩,
          Buf.eq_of_forall_mem_univ h4⟩, by simpa using hb⟩
      iexact HSI)
    (hQ := fun s h hs => ⟨fun c => by
        obtain ⟨⟨⟨h0, h1, h2, h3⟩, h4⟩, -⟩ := h c
        refine ⟨⟨h0.trans ?_, h1.trans ?_, h2.trans ?_, h3.trans ?_⟩, h4.trans (Wf_out m c)⟩
        · exact (Wf_ne m c (Proc.devRef .tc main_arg0) (StableHlo.devRef_ne_of_ne (by decide))).trans (V_main_arg0 m c)
        · exact (Wf_ne m c (Proc.devRef .tc main_arg1) (StableHlo.devRef_ne_of_ne (by decide))).trans (V_main_arg1 m c)
        · exact (Wf_ne m c (Proc.devRef .tc main_arg2) (StableHlo.devRef_ne_of_ne (by decide))).trans (V_main_arg2 m c)
        · exact (Wf_ne m c (Proc.devRef .tc main_arg3) (StableHlo.devRef_ne_of_ne (by decide))).trans (V_main_arg3 m c),
      sem_eq_zero hs fun c s hs => by
        obtain rfl := unscoped_is s hs
        exact (h c).2⟩)

end Cert.MoeProof

end
-- ==== Proof.Frames.lean ====
/-
The frames: each program runs to its end, with its arguments as they were and every semaphore at zero.
-/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

set_option maxRecDepth 16384

noncomputable section

namespace Cert.MoeProof

open Idealize.ShloMosaic Idealize.SL.Sem

/-- The two programs have the same text, so their bodies and their tables of bodies are the same. -/
theorem body_same : @Cert.Kernel.cc0_body Bits _ _ = @Cert.KernelIdeal.cc0_body Bits _ _ := rfl

theorem defs₀_same : (Cert.Kernel.defs₀ (F := Bits)) = Cert.KernelIdeal.defs₀ (F := Bits) := by
  unfold Cert.Kernel.defs₀ Cert.KernelIdeal.defs₀
  refine congrArg Defs.onTc (funext fun l => funext fun x => ?_)
  fin_cases l
  rfl

theorem defs_same : (Cert.Kernel.defs (F := Bits)) = Cert.KernelIdeal.defs (F := Bits) :=
  congrArg (Pipeline.defs (Cert.Kernel.pcfgs (F := Bits))) defs₀_same

theorem frame_kernel : Cert.quiescent_Kernel (hKernel := Cert.Kernel.Gen.facts) := by
  intro m ρ _
  rw [defs_same]
  exact (θ_run Cert.KernelIdeal.defs _ _).mono (fun _ h => ⟨fun c => (h.1 c).1, h.2⟩) (run_main (F := Bits) m ρ)

theorem frame_kernelIdeal : Cert.quiescent_KernelIdeal (hKernelIdeal := Cert.KernelIdeal.Gen.facts) :=
  fun m ρ _ => (θ_run Cert.KernelIdeal.defs _ _).mono (fun _ h => ⟨fun c => (h.1 c).1, h.2⟩) (run_main (F := Ideal) m ρ)

theorem frame_referenceIdeal : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

end Cert.MoeProof

end
-- ==== Proof.KernelValue.lean ====
/-
What a device computes, at the ideal instance, one element at a time.
-/
module

public import proofs.«01_k».proof.Proof.Protocol
public import Idealize.ShloMosaic.Lib.Pointwise
public import Idealize.ShloMosaic.Lib.Pipeline.ValueKit

@[expose] public section

set_option maxRecDepth 16384

noncomputable section

namespace Cert.MoeProof

open Cert.KernelIdeal Cert.KernelIdeal.Gen
open Idealize.ShloMosaic
open Idealize.ShloMosaic.TcCoe

/-! ## The mathematics of one token -/

/-- A token's gate on one expert, `x` the token and `r` the expert's router column. -/
def gate (x r : Fin 512 → EReal) : EReal := ∑ k, x k * r k

/-- What an expert of weights `A`, `B` makes of a token. -/
def expert (x : Fin 512 → EReal) (A : Fin 512 → Fin 1024 → EReal) (B : Fin 1024 → Fin 512 → EReal) (d : Fin 512) : EReal :=
  ∑ f, max (∑ k, x k * A k f) 0 * B f d

/-- Two pairs of gates, one after the other. -/
def four (a b : Fin 2 → EReal) (e : Fin 4) : EReal := if h : e.val < 2 then a ⟨e.val, h⟩ else b ⟨e.val - 2, by omega⟩

/-- The highest of four gates, and the gates with the highest taken out. -/
def best (g : Fin 4 → EReal) : EReal := Finset.fold max (Ideal.ofBits FTy.f32 0xFF800000#32) g Finset.univ
def rest (g : Fin 4 → EReal) (e : Fin 4) : EReal := if g e = best g then Ideal.ofBits FTy.f32 0xFF800000#32 else g e

/-- The weight of the best expert, and of expert `e`: the best's, what is left of one for the second best, or none. -/
def top (g : Fin 4 → EReal) : EReal := Ideal.div 1 (1 + Ideal.exp (best (rest g) - best g))
def weight (g : Fin 4 → EReal) (e : Fin 4) : EReal :=
  (if g e = best g then top g else 0) + if rest g e = best (rest g) then 1 - top g else 0

/-- What a device's two experts add to a token's result, of the token's gates on them and on the peer's two. -/
def share (x : Fin 512 → EReal) (r r' : Fin 2 → Fin 512 → EReal) (A : Fin 2 → Fin 512 → Fin 1024 → EReal)
    (B : Fin 2 → Fin 1024 → Fin 512 → EReal) (d : Fin 512) : EReal :=
  expert x (A 0) (B 0) d * weight (four (fun j => gate x (r j)) fun j => gate x (r' j)) 0
    + expert x (A 1) (B 1) d * weight (four (fun j => gate x (r j)) fun j => gate x (r' j)) 1

/-! ## The payloads -/

theorem acc_at (x : Vec Ideal S256x512 .bf16) (r r' : Vec Ideal S2x512 .f32) (A0 A1 : Vec Ideal S1x512x1024 .bf16)
    (B0 B1 : Vec Ideal S1x1024x512 .bf16) (t : Fin 256) (d : Fin 512) :
    k0_pay20 (k0_pay7 x A0 B0) (k0_pay10 (k0_pay8 x A1) k0_pay9 B1) (k0_pay14 (k0_pay6 x) r r') (k0_pay17 (k0_pay6 x) r r')
        (k0_pay18 (k0_pay6 x) r r') k0_pay19 (ix2 t d)
      = share (fun k => x (ix2 t k)) (fun j k => r (ix2 j k)) (fun j k => r' (ix2 j k))
        (fun j k f => (![A0, A1] j : Vec Ideal S1x512x1024 .bf16) (ix3 0 k f)) (fun j f d => (![B0, B1] j : Vec Ideal S1x1024x512 .bf16) (ix3 0 f d)) d := by
  pointwise [k0_pay20, k0_pay7, k0_pay10, k0_pay8, k0_pay9, k0_pay14, k0_pay17, k0_pay18, k0_pay19, k0_pay16, k0_pay15, k0_pay13, k0_pay12, k0_pay11, k0_pay6]
  rfl

theorem lo_at (x : Vec Ideal S128x512 .bf16) (r r' : Vec Ideal S2x512 .f32) (A0 A1 : Vec Ideal S1x512x1024 .bf16)
    (B0 B1 : Vec Ideal S1x1024x512 .bf16) (t : Fin 128) (d : Fin 512) :
    k0_pay23 x (k0_pay21 (k0_pay11 r) r' x) (k0_pay22 x A0) B0 A1 B1 (ix2 t d)
      = share (fun k => x (ix2 t k)) (fun j k => r (ix2 j k)) (fun j k => r' (ix2 j k))
        (fun j k f => (![A0, A1] j : Vec Ideal S1x512x1024 .bf16) (ix3 0 k f)) (fun j f d => (![B0, B1] j : Vec Ideal S1x1024x512 .bf16) (ix3 0 f d)) d := by
  pointwise [k0_pay23, k0_pay21, k0_pay22, k0_pay11]
  rfl

theorem hi_at (x : Vec Ideal S128x512 .bf16) (r r' : Vec Ideal S2x512 .f32) (A0 A1 : Vec Ideal S1x512x1024 .bf16)
    (B0 B1 : Vec Ideal S1x1024x512 .bf16) (t : Fin 128) (d : Fin 512) :
    k0_pay34 (k0_pay31 (k0_pay26 (k0_pay11 r) r' x) (k0_pay29 (k0_pay11 r) r' x) (k0_pay30 (k0_pay11 r) r' x))
        (k0_pay32 x A1 B1)
        (k0_pay33 x (k0_pay26 (k0_pay11 r) r' x) (k0_pay29 (k0_pay11 r) r' x) (k0_pay30 (k0_pay11 r) r' x) A0 B0) (ix2 t d)
      = share (fun k => x (ix2 t k)) (fun j k => r (ix2 j k)) (fun j k => r' (ix2 j k))
        (fun j k f => (![A0, A1] j : Vec Ideal S1x512x1024 .bf16) (ix3 0 k f)) (fun j f d => (![B0, B1] j : Vec Ideal S1x1024x512 .bf16) (ix3 0 f d)) d := by
  pointwise [k0_pay34, k0_pay31, k0_pay32, k0_pay33, k0_pay26, k0_pay29, k0_pay30, k0_pay28, k0_pay27, k0_pay25, k0_pay24, k0_pay11]
  rfl

/-! ## What a device holds -/

variable (m : (ℓ : Loc nD τ sig) → Buf (Elt Ideal) ℓ) (c : Dev nD)

/-- A device's tokens, router columns and experts, as it is launched with them. -/
abbrev argX : Vec Ideal S256x512 .f32 := m ((c : Thread nD τ).loc main_arg0)
abbrev argR : Vec Ideal S512x2 .f32 := m ((c : Thread nD τ).loc main_arg1)
abbrev argA : Vec Ideal S2x512x1024 .f32 := m ((c : Thread nD τ).loc main_arg2)
abbrev argB : Vec Ideal S2x1024x512 .f32 := m ((c : Thread nD τ).loc main_arg3)

theorem V_main_v1 : V m c main_v1 = (truncf .bf16 (argX m c) bitsLt_bf16_f32 : FVec Ideal S256x512 .bf16) := by
  entry_read
  rfl

theorem V_main_v2 : V m c main_v2 = (transpose S2x512 [1, 0] (argR m c) transposes_S512x2_S2x512_1_0 : FVec Ideal S2x512 .f32) := by
  entry_read
  rfl

theorem xs_at (t : Fin 256) (k : Fin 512) : xs m c (ix2 t k) = argX m c (ix2 t k) := by
  have e : ((View.whole main_v1).slice (win0_0.rect t0_0)).emb (ix2 t k) = ix2 t k := by
    funext a; apply Fin.ext
    match a with
    | ⟨0, _⟩ => exact win0_0.rect_emb_val_of_index_zero t0_0 _ rfl _
    | ⟨1, _⟩ => exact win0_0.rect_emb_val_of_index_zero t0_0 _ rfl _
  show V m c main_v1 (((View.whole main_v1).slice (win0_0.rect t0_0)).emb (ix2 t k)) = _
  rw [e, V_main_v1]
  pointwise

theorem rs_at (j : Fin 2) (k : Fin 512) : rs m c (ix2 j k) = argR m c (ix2 k j) := by
  have e : ((View.whole main_v2).slice (win0_1.rect t0_0)).emb (ix2 j k) = ix2 j k := by
    funext a; apply Fin.ext
    match a with
    | ⟨0, _⟩ => exact win0_1.rect_emb_val_of_index_zero t0_0 _ rfl _
    | ⟨1, _⟩ => exact win0_1.rect_emb_val_of_index_zero t0_0 _ rfl _
  show V m c main_v2 (((View.whole main_v2).slice (win0_1.rect t0_0)).emb (ix2 j k)) = _
  rw [e, V_main_v2]
  pointwise

theorem w1s_at (j : Fin 2) (k : Fin 512) (f : Fin 1024) : w1s m c (ix3 j k f) = argA m c (ix3 j k f) := by
  have e : ((View.whole main_arg2).slice (win0_2.rect t0_0)).emb (ix3 j k f) = ix3 j k f := by
    funext a; apply Fin.ext
    match a with
    | ⟨0, _⟩ => exact win0_2.rect_emb_val_of_index_zero t0_0 _ rfl _
    | ⟨1, _⟩ => exact win0_2.rect_emb_val_of_index_zero t0_0 _ rfl _
    | ⟨2, _⟩ => exact win0_2.rect_emb_val_of_index_zero t0_0 _ rfl _
  show V m c main_arg2 (((View.whole main_arg2).slice (win0_2.rect t0_0)).emb (ix3 j k f)) = _
  rw [e, V_main_arg2]

theorem w2s_at (j : Fin 2) (f : Fin 1024) (d : Fin 512) : w2s m c (ix3 j f d) = argB m c (ix3 j f d) := by
  have e : ((View.whole main_arg3).slice (win0_3.rect t0_0)).emb (ix3 j f d) = ix3 j f d := by
    funext a; apply Fin.ext
    match a with
    | ⟨0, _⟩ => exact win0_3.rect_emb_val_of_index_zero t0_0 _ rfl _
    | ⟨1, _⟩ => exact win0_3.rect_emb_val_of_index_zero t0_0 _ rfl _
    | ⟨2, _⟩ => exact win0_3.rect_emb_val_of_index_zero t0_0 _ rfl _
  show V m c main_arg3 (((View.whole main_arg3).slice (win0_3.rect t0_0)).emb (ix3 j f d)) = _
  rw [e, V_main_arg3]

theorem lo_emb (t : Fin 128) (d : Fin 512) : lo.emb (ix2 t d) = ix2 (⟨t.val, by omega⟩ : Fin 256) d := by
  funext a; apply Fin.ext
  match a with
  | ⟨0, _⟩ => simp [Rect.unit, Rect.emb]
  | ⟨1, _⟩ => simp [Rect.unit, Rect.emb]

theorem hi_emb (t : Fin 128) (d : Fin 512) : hi.emb (ix2 t d) = ix2 (⟨128 + t.val, by omega⟩ : Fin 256) d := by
  funext a; apply Fin.ext
  match a with
  | ⟨0, _⟩ => simp [Rect.unit, Rect.emb]
  | ⟨1, _⟩ => simp [Rect.unit, Rect.emb]

theorem a0_emb (k : Fin 512) (f : Fin 1024) : a0.emb (ix3 0 k f) = ix3 0 k f := by
  funext a; apply Fin.ext
  match a with
  | ⟨0, _⟩ => rfl
  | ⟨1, _⟩ => simp [Rect.unit, Rect.emb]
  | ⟨2, _⟩ => simp [Rect.unit, Rect.emb]

theorem a1_emb (k : Fin 512) (f : Fin 1024) : a1.emb (ix3 0 k f) = ix3 1 k f := by
  funext a; apply Fin.ext
  match a with
  | ⟨0, _⟩ => rfl
  | ⟨1, _⟩ => simp [Rect.unit, Rect.emb]
  | ⟨2, _⟩ => simp [Rect.unit, Rect.emb]

theorem b0_emb (f : Fin 1024) (d : Fin 512) : b0.emb (ix3 0 f d) = ix3 0 f d := by
  funext a; apply Fin.ext
  match a with
  | ⟨0, _⟩ => rfl
  | ⟨1, _⟩ => simp [Rect.unit, Rect.emb]
  | ⟨2, _⟩ => simp [Rect.unit, Rect.emb]

theorem b1_emb (f : Fin 1024) (d : Fin 512) : b1.emb (ix3 0 f d) = ix3 1 f d := by
  funext a; apply Fin.ext
  match a with
  | ⟨0, _⟩ => rfl
  | ⟨1, _⟩ => simp [Rect.unit, Rect.emb]
  | ⟨2, _⟩ => simp [Rect.unit, Rect.emb]

theorem wa0_at (k : Fin 512) (f : Fin 1024) : wa0 m c (ix3 0 k f) = argA m c (ix3 0 k f) := by
  rw [← w1s_at]
  unfold wa0
  pointwise [k0_pay1]
  exact congrArg (w1s m c) (a0_emb k f)

theorem wa1_at (k : Fin 512) (f : Fin 1024) : wa1 m c (ix3 0 k f) = argA m c (ix3 1 k f) := by
  rw [← w1s_at]
  unfold wa1
  pointwise [k0_pay4]
  exact congrArg (w1s m c) (a1_emb k f)

theorem wb0_at (f : Fin 1024) (d : Fin 512) : wb0 m c (ix3 0 f d) = argB m c (ix3 0 f d) := by
  rw [← w2s_at]
  unfold wb0
  pointwise [k0_pay2, k0_pay3]
  exact congrArg (w2s m c) (b0_emb f d)

theorem wb1_at (f : Fin 1024) (d : Fin 512) : wb1 m c (ix3 0 f d) = argB m c (ix3 1 f d) := by
  rw [← w2s_at]
  unfold wb1
  pointwise [k0_pay5]
  exact congrArg (w2s m c) (b1_emb f d)

/-- What device `c`'s two experts add to the result of token `t` of device `d`. -/
def adds (m : (ℓ : Loc nD τ sig) → Buf (Elt Ideal) ℓ) (c d : Dev nD) (t : Fin 256) : Fin 512 → EReal :=
  share (fun k => argX m d (ix2 t k)) (fun j k => argR m c (ix2 k j)) (fun j k => argR m (peer c) (ix2 k j))
    (fun j k f => argA m c (ix3 j k f)) (fun j f d => argB m c (ix3 j f d))

theorem acc_eq (t : Fin 256) (d : Fin 512) : acc m c (ix2 t d) = adds m c c t d := by
  unfold acc
  rw [acc_at]
  unfold adds share
  simp only [xs_at, rs_at, wa0_at, wa1_at, wb0_at, wb1_at, Matrix.cons_val_zero, Matrix.cons_val_one]

theorem plo_eq (t : Fin 128) (d : Fin 512) : plo m c (ix2 t d) = adds m c (peer c) ⟨t.val, by omega⟩ d := by
  unfold plo
  rw [lo_at]
  unfold adds share xlo
  simp only [lo_emb, xs_at, rs_at, wa0_at, wa1_at, wb0_at, wb1_at, Matrix.cons_val_zero, Matrix.cons_val_one]

theorem phi_eq (t : Fin 128) (d : Fin 512) : phi m c (ix2 t d) = adds m c (peer c) ⟨128 + t.val, by omega⟩ d := by
  unfold phi
  rw [hi_at]
  unfold adds share xhi
  simp only [hi_emb, xs_at, rs_at, wa0_at, wa1_at, wb0_at, wb1_at, Matrix.cons_val_zero, Matrix.cons_val_one]

/-- A device's result: what its own experts add, and what its peer's do. -/
theorem out_at (t : Fin 256) (d : Fin 512) : out m c (ix2 t d) = adds m c c t d + adds m (peer c) c t d := by
  by_cases h : t.val < 128
  · have e : (ix2 t d : S256x512.Idx) = lo.emb (ix2 (⟨t.val, h⟩ : Fin 128) d) := (lo_emb ⟨t.val, h⟩ d).symm
    rw [e, show out m c (lo.emb (ix2 (⟨t.val, h⟩ : Fin 128) d)) = outlo m c (ix2 (⟨t.val, h⟩ : Fin 128) d) from congrFun (out_lo m c) _]
    unfold outlo
    pointwise [k0_pay35]
    rw [acc_eq, plo_eq, peer_peer]
  · have e : (ix2 t d : S256x512.Idx) = hi.emb (ix2 (⟨t.val - 128, by omega⟩ : Fin 128) d) :=
      (congrArg (fun t => (ix2 t d : S256x512.Idx)) (Fin.ext (by simp only []; omega))).trans (hi_emb ⟨t.val - 128, by omega⟩ d).symm
    rw [e, show out m c (hi.emb (ix2 (⟨t.val - 128, by omega⟩ : Fin 128) d)) = outhi m c (ix2 (⟨t.val - 128, by omega⟩ : Fin 128) d) from congrFun (out_hi m c) _]
    unfold outhi
    pointwise [k0_pay36]
    rw [acc_eq, phi_eq, peer_peer]
    rw [show (⟨128 + (⟨t.val - 128, by omega⟩ : Fin 128).val, by simp only []; omega⟩ : Fin 256) = t from Fin.ext (by simp only []; omega)]

end Cert.MoeProof

end
-- ==== Proof.Choice.lean ====
/-
The choice of two experts among four, of gates that make it clear: what the two highest are, what the
weights are, and what the sort by gates puts first.
-/
module

public import proofs.«01_k».proof.Proof.KernelValue
public import Idealize.ShloMosaic.Lib.SortFacts

@[expose] public section

noncomputable section

namespace Cert.MoeProof

open Idealize.ShloMosaic

/-- The choice is clear: expert `i` has the highest gate, which is not infinite, `j` the second, and both are alone there. -/
structure Clear (g : Fin 4 → EReal) (i j : Fin 4) : Prop where
  ne : i ≠ j
  fin : g i < ⊤
  lt : g j < g i
  others : ∀ e, e ≠ i → e ≠ j → g e < g j

theorem lowest : Ideal.ofBits FTy.f32 0xFF800000#32 = ⊥ := by simp [Ideal.ofBits, Ideal.ieee]
theorem highest : Ideal.ofBits FTy.f32 0x7F800000#32 = ⊤ := by simp [Ideal.ofBits, Ideal.ieee]

theorem le_best (g : Fin 4 → EReal) (e : Fin 4) : g e ≤ best g :=
  (Finset.le_fold_max _).2 (Or.inr ⟨e, Finset.mem_univ e, le_rfl⟩)

theorem best_eq {g : Fin 4 → EReal} {i : Fin 4} (h : ∀ e, g e ≤ g i) : best g = g i :=
  le_antisymm ((Finset.fold_max_le _).2 ⟨by rw [lowest]; exact bot_le, fun e _ => h e⟩) (le_best g i)

namespace Clear

variable {g : Fin 4 → EReal} {i j : Fin 4} (h : Clear g i j)
include h

theorem lt_first (e : Fin 4) (he : e ≠ i) : g e < g i := by
  by_cases hj : e = j
  · rw [hj]; exact h.lt
  · exact (h.others e he hj).trans h.lt

theorem bot_lt : ⊥ < g j := by
  have : ∃ e : Fin 4, e ≠ i ∧ e ≠ j := by
    generalize i = i, j = j
    revert i j; decide
  obtain ⟨e, hi, hj⟩ := this
  exact lt_of_le_of_lt bot_le (h.others e hi hj)

theorem best : best g = g i := best_eq fun e => by
  by_cases he : e = i
  · rw [he]
  · exact (h.lt_first e he).le

theorem eq_first (e : Fin 4) : g e = g i ↔ e = i :=
  ⟨fun q => by_contra fun he => (h.lt_first e he).ne q, fun q => by rw [q]⟩

theorem rest_eq (e : Fin 4) : rest g e = if e = i then ⊥ else g e := by
  unfold rest
  simp only [h.best, h.eq_first, lowest]

theorem best_rest : Cert.MoeProof.best (rest g) = g j := by
  have hj : rest g j = g j := by rw [h.rest_eq, if_neg h.ne.symm]
  rw [← hj]
  refine best_eq fun e => ?_
  rw [hj, h.rest_eq]
  by_cases he : e = i
  · rw [if_pos he]; exact bot_le
  · rw [if_neg he]
    by_cases hej : e = j
    · rw [hej]
    · exact (h.others e he hej).le

theorem eq_second (e : Fin 4) : rest g e = g j ↔ e = j := by
  rw [h.rest_eq]
  by_cases he : e = i
  · rw [if_pos he]
    exact ⟨fun q => absurd q h.bot_lt.ne, fun q => absurd (he.symm.trans q) h.ne⟩
  · rw [if_neg he]
    exact ⟨fun q => by_contra fun hej => (h.others e he hej).ne q, fun q => by rw [q]⟩

/-- The weights in the device's form. -/
theorem weight_eq (e : Fin 4) :
    weight g e = (if e = i then Ideal.div 1 (1 + Ideal.exp (g j - g i)) else 0)
      + if e = j then 1 - Ideal.div 1 (1 + Ideal.exp (g j - g i)) else 0 := by
  unfold weight top
  rw [h.best_rest, h.best]
  simp only [h.eq_first, h.eq_second]

/-- The first weight is the plain softmax of the two gates, the highest taken off both. -/
theorem first_weight : Ideal.div 1 (1 + Ideal.exp (g j - g i))
    = Ideal.div (Ideal.exp (g i - max (g i) (g j))) (Ideal.exp (g i - max (g i) (g j)) + Ideal.exp (g j - max (g i) (g j))) := by
  rw [max_eq_left h.lt.le]
  lift g i to ℝ using ⟨h.fin.ne, (h.bot_lt.trans h.lt).ne'⟩ with a
  rw [← EReal.coe_sub, sub_self, Ideal.exp_coe, Real.exp_zero, EReal.coe_one]

/-- And so is the second. -/
theorem second_weight : 1 - Ideal.div 1 (1 + Ideal.exp (g j - g i))
    = Ideal.div (Ideal.exp (g j - max (g i) (g j))) (Ideal.exp (g i - max (g i) (g j)) + Ideal.exp (g j - max (g i) (g j))) := by
  rw [max_eq_left h.lt.le]
  obtain ⟨a, ha⟩ : ∃ a : ℝ, g i = a := ⟨(g i).toReal, (EReal.coe_toReal h.fin.ne (h.bot_lt.trans h.lt).ne').symm⟩
  obtain ⟨b, hb⟩ : ∃ b : ℝ, g j = b := ⟨(g j).toReal, (EReal.coe_toReal (h.lt.trans h.fin).ne h.bot_lt.ne').symm⟩
  rw [ha, hb, ← EReal.coe_sub, ← EReal.coe_sub, sub_self, Ideal.exp_coe, Ideal.exp_coe, Real.exp_zero, EReal.coe_one]
  have hp : (0 : ℝ) < 1 + Real.exp (b - a) := by positivity
  have e : (1 : EReal) + (Real.exp (b - a) : EReal) = ((1 + Real.exp (b - a) : ℝ) : EReal) := by
    rw [EReal.coe_add, EReal.coe_one]
  rw [e, Ideal.div_coe hp.ne', Ideal.div_coe hp.ne', one_mul, ← EReal.coe_one, ← EReal.coe_sub, ← EReal.coe_mul]
  congr 1
  field_simp
  ring

/-- The choice is as clear in another order of the experts. -/
theorem reorder (σ : Equiv.Perm (Fin 4)) : Clear (fun e => g (σ e)) (σ.symm i) (σ.symm j) where
  ne q := h.ne (σ.symm.injective q)
  fin := by simpa using h.fin
  lt := by simpa using h.lt
  others e hi hj := by
    simpa using h.others (σ e) (fun q => hi (by rw [← q, Equiv.symm_apply_apply])) fun q => hj (by rw [← q, Equiv.symm_apply_apply])

/-- The sort of the four by their gates, highest first, starts with `i` and then `j`. -/
theorem sorted :
    sortedFrom (fun k k' => Ideal.cmpTotal .gt (g k) (g k') == 1#1) 0 = i
      ∧ sortedFrom (fun k k' => Ideal.cmpTotal .gt (g k) (g k') == 1#1) 1 = j := by
  have hgt : ∀ a b : Fin 4, (Ideal.cmpTotal .gt (g a) (g b) == 1#1) = decide (g b < g a) := by
    intro a b
    unfold Ideal.cmpTotal Ideal.cmp CmpDirection.ordered
    by_cases hab : g b < g a <;> simp [hab]
  simp only [hgt]
  have hno := sortedFrom_noInversion (fun k k' : Fin 4 => decide (g k' < g k)) (fun k k' => decide (g k' < g k))
    (fun a b q => by simpa using (of_decide_eq_true q).le) (fun _ _ q => q)
    (fun a b c p q => by
      simp only [decide_eq_false_iff_not, not_lt] at p q ⊢
      exact p.trans q)
  simp only [decide_eq_false_iff_not, not_lt] at hno
  have hinj := sortedFrom_injective (fun k k' : Fin 4 => decide (g k' < g k))
  have hsur := sortedFrom_surjective (fun k k' : Fin 4 => decide (g k' < g k))
  generalize sortedFrom (fun k k' : Fin 4 => decide (g k' < g k)) = s at hno hinj hsur ⊢
  have h0 : s 0 = i := by
    by_contra hne
    obtain ⟨k, hk⟩ := hsur i
    have h0k : (0 : Fin 4) < k := Fin.pos_iff_ne_zero.2 fun q => hne (q ▸ hk)
    have := hno 0 k h0k
    rw [hk] at this
    exact absurd (h.lt_first _ hne) this.not_gt
  refine ⟨h0, ?_⟩
  by_contra hne
  obtain ⟨k, hk⟩ := hsur j
  have h1i : s 1 ≠ i := fun q => by simpa using hinj (q.trans h0.symm)
  have hk0 : k ≠ 0 := fun q => h.ne (h0.symm.trans (q ▸ hk))
  have hk1 : k ≠ 1 := fun q => hne (q ▸ hk)
  have h1k : (1 : Fin 4) < k := by omega
  have := hno 1 k h1k
  rw [hk] at this
  exact absurd (h.others _ h1i hne) this.not_gt

end Clear

/-- Counting makes the choice clear: one gate reaches the highest, and two the highest of those below it. -/
theorem clear_of_count {g : Fin 4 → EReal} (s : EReal) (hs : s ≤ best g)
    (h1 : (Finset.univ.filter fun e => best g ≤ g e).card = 1) (h2 : (Finset.univ.filter fun e => s ≤ g e).card = 2)
    (ht : best g < ⊤) : ∃ i j, Clear g i j := by
  obtain ⟨i, hi⟩ := Finset.card_eq_one.1 h1
  have mi : ∀ e, best g ≤ g e ↔ e = i := fun e => by
    rw [← Finset.mem_singleton, ← hi, Finset.mem_filter]; simp
  have hb : best g = g i := le_antisymm ((mi i).2 rfl) (le_best g i)
  have hmem : i ∈ Finset.univ.filter fun e => s ≤ g e := Finset.mem_filter.2 ⟨Finset.mem_univ i, hb ▸ hs⟩
  obtain ⟨j, hj⟩ := Finset.card_eq_one.1 (show ((Finset.univ.filter fun e => s ≤ g e).erase i).card = 1 by
    rw [Finset.card_erase_of_mem hmem, h2])
  have mj : ∀ e, (e ≠ i ∧ s ≤ g e) ↔ e = j := fun e => by
    rw [← Finset.mem_singleton, ← hj, Finset.mem_erase, Finset.mem_filter]; simp
  obtain ⟨hji, hsj⟩ := (mj j).2 rfl
  refine ⟨i, j, hji.symm, hb ▸ ht, ?_, fun e hei hej => ?_⟩
  · rw [← hb]; exact lt_of_not_ge fun q => hji ((mi j).1 q)
  · exact lt_of_lt_of_le (lt_of_not_ge fun q => hej ((mj e).1 ⟨hei, q⟩)) hsj

end Cert.MoeProof
-- ==== Proof.Mask.lean ====
/-
What the mask says of a token, read out of its operations.
-/
module

public import proofs.«01_k».proof.Proof.Choice
public import proofs.«01_k».proof.Proof.Gen.On_clear
public import Idealize.ShloMosaic.Lib.IndicatorCount

@[expose] public section

set_option maxRecDepth 16384

noncomputable section

namespace Cert.MoeProof

open Idealize.ShloMosaic

/-- A token's four gates, of the whole arrays. -/
def gates (X : (⟨2, ![512, 512]⟩ : Shape).Idx → EReal) (R : (⟨2, ![512, 4]⟩ : Shape).Idx → EReal) (t : Fin 512) (e : Fin 4) : EReal :=
  gate (fun k => X (ix2 t k)) fun k => R (ix2 k e)

/-- The conjunction of one-bit words is one exactly if both are. -/
theorem andi_one (a b : BitVec 1) : IntOp.andi a b = 1#1 ↔ a = 1#1 ∧ b = 1#1 := by
  revert a b; decide

/-- A one-bit word made of a truth value is one exactly if it is true. -/
theorem ofBool_one (b : Bool) : BitVec.ofBool b = 1#1 ↔ b = true := by
  cases b <;> decide

/-- The count of the gates that reach `s`, as the mask takes it. -/
theorem count_eq (g : Fin 4 → EReal) (s : EReal) (n : Nat) (hn : n < 5)
    (h : IntOp.cmpi .eq (Finset.fold IntOp.addi (0#32) (fun e => BitVec.setWidth 32 (BitVec.ofBool (decide (s ≤ g e)))) Finset.univ)
      (BitVec.ofNat 32 n) = 1#1) : (Finset.univ.filter fun e => s ≤ g e).card = n := by
  rw [IndicatorCount.fold_addi_setWidth_eq_card (fun e => BitVec.ofBool (decide (s ≤ g e)))] at h
  have e : (Finset.univ.filter fun e => BitVec.ofBool (decide (s ≤ g e)) = 1#1) = Finset.univ.filter fun e => s ≤ g e :=
    Finset.filter_congr fun e _ => by by_cases q : s ≤ g e <;> simp [q]
  rw [e] at h
  have hc : (Finset.univ.filter fun e => s ≤ g e).card ≤ 4 := (Finset.card_le_univ _).trans (by simp)
  have hq : BitVec.ofNat 32 (Finset.univ.filter fun e => s ≤ g e).card = BitVec.ofNat 32 n := by
    simpa [IntOp.cmpi, ofBool_one] using h
  have := congrArg BitVec.toNat hq
  simp only [BitVec.toNat_ofNat] at this
  omega

/-- Where the mask is set, the token's choice is clear. -/
theorem clear_of_mask (X : (⟨2, ![512, 512]⟩ : Shape).Idx → EReal) (R : (⟨2, ![512, 4]⟩ : Shape).Idx → EReal)
    (A : (⟨3, ![4, 512, 1024]⟩ : Shape).Idx → EReal) (B : (⟨3, ![4, 1024, 512]⟩ : Shape).Idx → EReal)
    (t d : Fin 512) (h : Cert.On_clear.fn (F := Ideal) X R A B (ix2 t d) = 1#1) : ∃ i j, Clear (gates X R t) i j := by
  revert h
  pointwise [Cert.On_clear.fn, Cert.On_clear.fn_part1, Cert.On_clear.fn_where]
  intro h
  have h : IntOp.andi (IntOp.andi
      (IntOp.cmpi .eq (Finset.fold IntOp.addi (0#32) (fun e => BitVec.setWidth 32 (BitVec.ofBool (decide
        (best (gates X R t) ≤ gates X R t e)))) Finset.univ) (BitVec.ofNat 32 1))
      (IntOp.cmpi .eq (Finset.fold IntOp.addi (0#32) (fun e => BitVec.setWidth 32 (BitVec.ofBool (decide
        (best (fun e => if gates X R t e < best (gates X R t) then gates X R t e else Ideal.ofBits FTy.f32 0xFF800000#32) ≤ gates X R t e))))
        Finset.univ) (BitVec.ofNat 32 2)))
      (BitVec.ofBool (decide (best (gates X R t) < Ideal.ofBits FTy.f32 0x7F800000#32))) = 1#1 := h
  obtain ⟨h, h3⟩ := (andi_one _ _).1 h
  obtain ⟨h1, h2⟩ := (andi_one _ _).1 h
  refine clear_of_count _ ?_ (count_eq _ _ 1 (by decide) h1) (count_eq _ _ 2 (by decide) h2) ?_
  · refine (Finset.fold_max_le _).2 ⟨by rw [lowest]; exact bot_le, fun e _ => ?_⟩
    split
    · exact le_best _ e
    · rw [lowest]; exact bot_le
  · rw [highest] at h3
    simpa [ofBool_one] using h3

end Cert.MoeProof
-- ==== Proof.RefValue.lean ====
/-
What the reference computes, one element at a time.
-/
module

public import proofs.«01_k».proof.Proof.Mask
public import proofs.«01_k».proof.Proof.Gen.ReferenceIdeal.Run

@[expose] public section

set_option maxRecDepth 16384

noncomputable section

namespace Cert.MoeProof

open Idealize.ShloMosaic
open Cert.ReferenceIdeal Cert.ReferenceIdeal.Gen Cert.ReferenceIdeal.Value

/-- A row's index with its place along the row replaced. -/
theorem along_row (t : Fin 512) (e k : Fin 4) : (ix2 t e : S512x4.Idx).along (1 : Fin 2) k = ix2 t k := by
  funext a
  match a with
  | ⟨0, _⟩ => exact Function.update_of_ne (show (0 : Fin 2) ≠ 1 by decide) _ _
  | ⟨1, _⟩ => exact Function.update_self _ _ _

/-- The place in row `t` of the `k`-th in the order of a top-k. -/
def place (x : S512x4.Idx → EReal) (t : Fin 512) (k : Fin 4) : Fin 4 :=
  sortedFrom (fun e e' => Ideal.cmpTotal .gt (x (ix2 t e)) (x (ix2 t e')) == 1#1) k

theorem place_eq (x : S512x4.Idx → EReal) (t : Fin 512) (k : Fin 4) :
    sortedFrom (n := 4) (fun e e' => Ideal.cmpTotal .gt (x ((ix2 t k : S512x4.Idx).along (1 : Fin 2) e)) (x ((ix2 t k : S512x4.Idx).along (1 : Fin 2) e')) == 1#1) k
      = place x t k := by
  unfold place
  simp only [along_row]

theorem fits_row {α : Type} (t : Fin 512) (s : Fin 2) (h : S512x4.Slices (fun _ => 0) S512x2) (f : S512x4.Idx → α) :
    extractStridedSlice S512x2 (fun _ => 0) f h (ix2 t s) = f (ix2 t (s.castLE (by decide))) := by
  refine congrArg f ?_
  funext a; apply Fin.ext
  match a with
  | ⟨0, _⟩ => exact Nat.zero_add _
  | ⟨1, _⟩ => exact Nat.zero_add _

/-- What a sort of rows with a second array along has at a place. -/
theorem sort2_at {β : Type} (x : S512x4.Idx → EReal) (y : S512x4.Idx → β) (t : Fin 512) (k : Fin 4) :
    (Host.sort2 S512x4 1 (fun l r => FloatOps.cmpfTotal (F := Ideal) (φ := .f32) .gt l.1 r.1) x y).1 (ix2 t k) = x (ix2 t (place x t k))
    ∧ (Host.sort2 S512x4 1 (fun l r => FloatOps.cmpfTotal (F := Ideal) (φ := .f32) .gt l.1 r.1) x y).2 (ix2 t k) = y (ix2 t (place x t k)) := by
  have e := (along_row t k _).trans (congrArg (ix2 t : Fin 4 → S512x4.Idx) (place_eq x t k))
  exact ⟨congrArg x e, congrArg y e⟩

/-- The places along the rows, as words. -/
def along : S512x4.Idx → BitVec 32 := fun i => if hd : 1 < S512x4.rank then iotaInDim S512x4 32 ⟨1, hd⟩ i else 0#32

theorem topK_values (x : S512x4.Idx → EReal) (h : S512x4.Slices (fun _ => 0) S512x2) (t : Fin 512) (s : Fin 2) :
    (Host.topK S512x2 1 (FloatOps.cmpfTotal (F := Ideal) (φ := .f32) .gt) x h).1 (ix2 t s) = x (ix2 t (place x t (s.castLE (by decide)))) :=
  (fits_row t s h _).trans (sort2_at x along t _).1

theorem topK_places (x : S512x4.Idx → EReal) (h : S512x4.Slices (fun _ => 0) S512x2) (t : Fin 512) (s : Fin 2) :
    (Host.topK S512x2 1 (FloatOps.cmpfTotal (F := Ideal) (φ := .f32) .gt) x h).2 (ix2 t s) = BitVec.ofNat 32 (place x t (s.castLE (by decide))).val :=
  (fits_row t s h _).trans (sort2_at x along t _).2

/-- The weights of two gates. -/
theorem softmax_at (v : FVec Ideal S512x2 .f32) (t : Fin 512) (s : Fin 2) :
    (let e : FVec Ideal S512x2 .f32 := Host.exp (subf v (broadcastInDim S512x2 ![0, 1] bcast_S512x1_S512x2_0_1 (broadcastInDim S512x1 ![0] bcast_S512_S512x1_0 (Host.reduce FloatOps.maximumf v (constant S_ .f32 0xFF800000#32) reducesTo_S512x2_S512_d1 h_S_))))
     Host.divf e (broadcastInDim S512x2 ![0, 1] bcast_S512x1_S512x2_0_1 (broadcastInDim S512x1 ![0] bcast_S512_S512x1_0 (Host.reduceAdd e (constant S_ .f32 0x00000000#32) reducesTo_S512x2_S512_d1 h_S_)))) (ix2 t s)
    = Ideal.div (Ideal.exp (v (ix2 t s) - max (v (ix2 t 0)) (v (ix2 t 1))))
      (Ideal.exp (v (ix2 t 0) - max (v (ix2 t 0)) (v (ix2 t 1))) + Ideal.exp (v (ix2 t 1) - max (v (ix2 t 0)) (v (ix2 t 1)))) := by
  pointwise
  have e : Finset.fold max (Ideal.ofBits FTy.f32 4286578688#32) (fun e => v (ix2 t e)) Finset.univ = max (v (ix2 t 0)) (v (ix2 t 1)) := by
    refine le_antisymm ((Finset.fold_max_le _).2 ⟨?_, ?_⟩) (max_le ?_ ?_)
    · exact (lowest.trans_le bot_le)
    · intro e _
      fin_cases e
      · exact le_max_left _ _
      · exact le_max_right _ _
    · exact (Finset.le_fold_max _).2 (Or.inr ⟨0, Finset.mem_univ _, le_rfl⟩)
    · exact (Finset.le_fold_max _).2 (Or.inr ⟨1, Finset.mem_univ _, le_rfl⟩)
  rw [e, Fin.sum_univ_two]

/-- What one term of the reference's sum is: an expert's output under its weight, if the place holds that expert. -/
theorem term_eq (i e : Fin 4) (v : EReal) :
    Scalar.select (IntOp.cmpi CmpIPredicate.eq (BitVec.ofNat 32 i.val) (BitVec.ofNat 32 e.val)) v
      (id (constant (F := Ideal) S_ FTy.f32 0#32) ix0) = if i = e then v else 0 := by
  have z : (id (constant (F := Ideal) S_ FTy.f32 0#32) ix0 : EReal) = 0 := by
    show Ideal.ofBits FTy.f32 0#32 = 0
    simp [Ideal.ofBits, Ideal.ieee]
  have c : IntOp.cmpi CmpIPredicate.eq (BitVec.ofNat 32 i.val) (BitVec.ofNat 32 e.val) = if i = e then 1#1 else 0#1 := by
    revert i e; decide
  rw [z, c]
  split <;> rfl

/-- Of all the terms two are left. -/
theorem pick_sum (E : Fin 4 → EReal) (i j : Fin 4) (a b : EReal) :
    (if i = 0 then E 0 * a else 0) + (if i = 1 then E 1 * a else 0) + (if i = 2 then E 2 * a else 0) + (if i = 3 then E 3 * a else 0)
      + (if j = 0 then E 0 * b else 0) + (if j = 1 then E 1 * b else 0) + (if j = 2 then E 2 * b else 0) + (if j = 3 then E 3 * b else 0)
    = E i * a + E j * b := by
  fin_cases i <;> fin_cases j <;> simp

section
variable (V0 : Valuation Cert.ReferenceIdeal.τ Cert.ReferenceIdeal.sig (Elt Ideal))

abbrev allX : (⟨2, ![512, 512]⟩ : Shape).Idx → EReal := V0 (Proc.devRef .tc main_arg0)
abbrev allR : (⟨2, ![512, 4]⟩ : Shape).Idx → EReal := V0 (Proc.devRef .tc main_arg1)
abbrev allA : (⟨3, ![4, 512, 1024]⟩ : Shape).Idx → EReal := V0 (Proc.devRef .tc main_arg2)
abbrev allB : (⟨3, ![4, 1024, 512]⟩ : Shape).Idx → EReal := V0 (Proc.devRef .tc main_arg3)

theorem res_gates (t : Fin 512) (e : Fin 4) : res_main_v0 V0 (ix2 t e) = gates (allX V0) (allR V0) t e := by
  pointwise [res_main_v0]
  rfl

variable {t : Fin 512} {i j : Fin 4} (h : Clear (gates (allX V0) (allR V0) t) i j)
include h

/-- The two places of a token whose choice is clear. -/
theorem places : place (res_main_v0 V0) t 0 = i ∧ place (res_main_v0 V0) t 1 = j := by
  unfold place
  simp only [res_gates]
  exact h.sorted

theorem res_first : (res_main_values V0 : S512x2.Idx → EReal) (ix2 t 0) = gates (allX V0) (allR V0) t i
    ∧ (res_main_indices V0 : S512x2.Idx → BitVec 32) (ix2 t 0) = BitVec.ofNat 32 i.val := by
  have hp := (places V0 h).1
  refine ⟨(topK_values (res_main_v0 V0) _ t 0).trans ?_, (topK_places (res_main_v0 V0) _ t 0).trans ?_⟩
  · rw [show (Fin.castLE (by decide) (0 : Fin 2) : Fin 4) = 0 from rfl, hp, res_gates]
  · rw [show (Fin.castLE (by decide) (0 : Fin 2) : Fin 4) = 0 from rfl, hp]

theorem res_second : (res_main_values V0 : S512x2.Idx → EReal) (ix2 t 1) = gates (allX V0) (allR V0) t j
    ∧ (res_main_indices V0 : S512x2.Idx → BitVec 32) (ix2 t 1) = BitVec.ofNat 32 j.val := by
  have hp := (places V0 h).2
  refine ⟨(topK_values (res_main_v0 V0) _ t 1).trans ?_, (topK_places (res_main_v0 V0) _ t 1).trans ?_⟩
  · rw [show (Fin.castLE (by decide) (1 : Fin 2) : Fin 4) = 1 from rfl, hp, res_gates]
  · rw [show (Fin.castLE (by decide) (1 : Fin 2) : Fin 4) = 1 from rfl, hp]

/-- The two weights, in the device's form. -/
theorem res_weights : (res_main_v9 V0 : S512x2.Idx → EReal) (ix2 t 0)
      = Ideal.div 1 (1 + Ideal.exp (gates (allX V0) (allR V0) t j - gates (allX V0) (allR V0) t i))
    ∧ (res_main_v9 V0 : S512x2.Idx → EReal) (ix2 t 1)
      = 1 - Ideal.div 1 (1 + Ideal.exp (gates (allX V0) (allR V0) t j - gates (allX V0) (allR V0) t i)) := by
  refine ⟨(softmax_at (res_main_values V0) t 0).trans ?_, (softmax_at (res_main_values V0) t 1).trans ?_⟩
  · rw [h.first_weight, (res_first V0 h).1, (res_second V0 h).1]
  · rw [h.second_weight, (res_first V0 h).1, (res_second V0 h).1]

/-- Expert `e`'s output for the token. -/
def allExpert (V0 : Valuation Cert.ReferenceIdeal.τ Cert.ReferenceIdeal.sig (Elt Ideal)) (t : Fin 512) (e : Fin 4) (d : Fin 512) : EReal :=
  expert (fun k => allX V0 (ix2 t k)) (fun k f => allA V0 (ix3 e k f)) (fun f d => allB V0 (ix3 e f d)) d

theorem res_at (d : Fin 512) : (res_main_v138 V0 : S512x512.Idx → EReal) (ix2 t d)
    = allExpert V0 t i d * Ideal.div 1 (1 + Ideal.exp (gates (allX V0) (allR V0) t j - gates (allX V0) (allR V0) t i))
      + allExpert V0 t j d * (1 - Ideal.div 1 (1 + Ideal.exp (gates (allX V0) (allR V0) t j - gates (allX V0) (allR V0) t i))) := by
  rw [← (res_weights V0 h).2, ← (res_weights V0 h).1]
  have p0 := (res_first V0 h).2
  have p1 := (res_second V0 h).2
  pointwise [res_main_v138, res_main_v74]
  rw [p0, p1]
  have t0 := fun i v => term_eq i 0 v
  have t1 := fun i v => term_eq i 1 v
  have t2 := fun i v => term_eq i 2 v
  have t3 := fun i v => term_eq i 3 v
  simp only [Fin.isValue, Fin.coe_ofNat_eq_mod, Nat.reduceMod] at t0 t1 t2 t3
  rw [t0, t1, t2, t3, t0, t1, t2, t3]
  exact pick_sum (fun e => allExpert V0 t e d) i j _ _

end

end Cert.MoeProof
-- ==== Proof.Equation.lean ====
/-
The equation: where a token's choice of two experts is clear, what the devices add up to is what the
reference computes.
-/
module

public import proofs.«01_k».proof.Proof.RefValue
public import Idealize.ShloMosaic.Lib.Layout

@[expose] public section

set_option maxRecDepth 16384

noncomputable section

namespace Cert.MoeProof

open Idealize.ShloMosaic
open Idealize.ShloMosaic.TcCoe

/-! ## Where a device's blocks are in the whole arrays -/

/-- Which half of the tokens and of the experts a device holds: its first mesh coordinate. -/
def side (c : Dev Cert.KernelIdeal.nD) : Fin 2 := ⟨c.val / 16, Nat.div_lt_of_lt_mul c.isLt⟩

theorem side_peer (c : Dev Cert.KernelIdeal.nD) : side (peer c) = side c + 1 := by revert c; decide

theorem lin_side (c : Dev Cert.KernelIdeal.nD) : Layout.meshLin [2, 4, 4] c.val [0] = (side c).val := by revert c; decide

/-- Token `t` of half `s` among all, and expert `j` of half `s` among all. -/
def token (s : Fin 2) (t : Fin 256) : Fin 512 := ⟨s.val * 256 + t.val, by omega⟩
def nth (s j : Fin 2) : Fin 4 := ⟨s.val * 2 + j.val, by omega⟩

theorem block_rows {α : Type} (c : Dev Cert.KernelIdeal.nD) (v : (⟨2, ![512, 512]⟩ : Shape).Idx → α) (t : Fin 256) (k : Fin 512) :
    Layout.blockN ⟨2, ![256, 512]⟩ ⟨2, ![512, 512]⟩ (Layout.meshBlock [2, 4, 4] ![[0], []] c) v (by decide) (ix2 t k)
      = v (ix2 (token (side c) t) k) := by
  refine congrArg v ?_
  funext a; apply Fin.ext
  match a with
  | ⟨0, _⟩ => exact congrArg (fun n => n * 256 + t.val) (lin_side c)
  | ⟨1, _⟩ => exact (congrArg (· + k.val) (Nat.zero_mul 512)).trans (Nat.zero_add _)

theorem block_cols {α : Type} (c : Dev Cert.KernelIdeal.nD) (v : (⟨2, ![512, 4]⟩ : Shape).Idx → α) (k : Fin 512) (j : Fin 2) :
    Layout.blockN ⟨2, ![512, 2]⟩ ⟨2, ![512, 4]⟩ (Layout.meshBlock [2, 4, 4] ![[], [0]] c) v (by decide) (ix2 k j)
      = v (ix2 k (nth (side c) j)) := by
  refine congrArg v ?_
  funext a; apply Fin.ext
  match a with
  | ⟨0, _⟩ => exact (congrArg (· + k.val) (Nat.zero_mul 512)).trans (Nat.zero_add _)
  | ⟨1, _⟩ => exact congrArg (fun n => n * 2 + j.val) (lin_side c)

theorem block_experts {α : Type} {p q : Nat} (c : Dev Cert.KernelIdeal.nD) (v : (⟨3, ![4, p, q]⟩ : Shape).Idx → α)
    (h : Layout.TilesN ⟨3, ![2, p, q]⟩ ⟨3, ![4, p, q]⟩ fun b => Layout.cutSize [2, 4, 4] ((![[0], [], []] : Fin 3 → List Nat) b))
    (j : Fin 2) (k : Fin p) (f : Fin q) :
    Layout.blockN ⟨3, ![2, p, q]⟩ ⟨3, ![4, p, q]⟩ (Layout.meshBlock [2, 4, 4] ![[0], [], []] c) v h (ix3 j k f)
      = v (ix3 (nth (side c) j) k f) := by
  refine congrArg v ?_
  funext a; apply Fin.ext
  match a with
  | ⟨0, _⟩ => exact congrArg (fun n => n * 2 + j.val) (lin_side c)
  | ⟨1, _⟩ => exact (congrArg (· + k.val) (Nat.zero_mul p)).trans (Nat.zero_add _)
  | ⟨2, _⟩ => exact (congrArg (· + f.val) (Nat.zero_mul q)).trans (Nat.zero_add _)

/-! ## The two halves of the experts -/

/-- The experts in the order a device of half `s` has them: its own two, then its peer's. -/
def order (s : Fin 2) : Equiv.Perm (Fin 4) := Equiv.addRight (nth s 0)

theorem order_own (s j : Fin 2) : order s (j.castLE (by decide)) = nth s j := by revert s j; decide

theorem four_eq (g : Fin 4 → EReal) (s : Fin 2) :
    four (fun j => g (nth s j)) (fun j => g (nth (s + 1) j)) = fun e => g (order s e) := by
  funext e
  unfold four
  split
  · exact congrArg g (by revert s e; decide)
  · exact congrArg g (by revert s e; decide)

/-- What the two experts of a half add, each under its weight. -/
def half (E : Fin 4 → EReal) (i j : Fin 4) (p q : EReal) (s : Fin 2) : EReal :=
  E (nth s 0) * ((if nth s 0 = i then p else 0) + if nth s 0 = j then q else 0)
    + E (nth s 1) * ((if nth s 1 = i then p else 0) + if nth s 1 = j then q else 0)

theorem halves (E : Fin 4 → EReal) (i j : Fin 4) (hij : i ≠ j) (p q : EReal) (s : Fin 2) :
    half E i j p q s + half E i j p q (s + 1) = E i * p + E j * q := by
  unfold half
  revert hij
  fin_cases s <;> fin_cases i <;> fin_cases j <;> simp [nth, add_comm]

section
variable (m : (ℓ : Loc Cert.KernelIdeal.nD Cert.KernelIdeal.τ Cert.KernelIdeal.sig) → Buf (Elt Ideal) ℓ)
  (V0 : Valuation Cert.ReferenceIdeal.τ Cert.ReferenceIdeal.sig (Elt Ideal))

/-- The devices hold their blocks of the reference's arrays. -/
structure Laid : Prop where
  x : ∀ c t k, argX m c (ix2 t k) = allX V0 (ix2 (token (side c) t) k)
  r : ∀ c k j, argR m c (ix2 k j) = allR V0 (ix2 k (nth (side c) j))
  a : ∀ c j k f, argA m c (ix3 j k f) = allA V0 (ix3 (nth (side c) j) k f)
  b : ∀ c j f d, argB m c (ix3 j f d) = allB V0 (ix3 (nth (side c) j) f d)

variable {m V0} (hl : Laid m V0)
include hl

theorem adds_eq (c e : Dev Cert.KernelIdeal.nD) (t : Fin 256) (d : Fin 512) {i j : Fin 4}
    (h : Clear (gates (allX V0) (allR V0) (token (side e) t)) i j) :
    adds m c e t d = half (fun n => allExpert V0 (token (side e) t) n d) i j
      (Ideal.div 1 (1 + Ideal.exp (gates (allX V0) (allR V0) (token (side e) t) j - gates (allX V0) (allR V0) (token (side e) t) i)))
      (1 - Ideal.div 1 (1 + Ideal.exp (gates (allX V0) (allR V0) (token (side e) t) j - gates (allX V0) (allR V0) (token (side e) t) i)))
      (side c) := by
  unfold adds share
  simp only [hl.x, hl.r, hl.a, hl.b, side_peer]
  have hg := four_eq (gates (allX V0) (allR V0) (token (side e) t)) (side c)
  unfold gates at hg h ⊢
  rw [hg, (h.reorder (order (side c))).weight_eq, (h.reorder (order (side c))).weight_eq]
  simp only [Equiv.apply_symm_apply, Equiv.eq_symm_apply]
  have o0 : order (side c) 0 = nth (side c) 0 := order_own (side c) 0
  have o1 : order (side c) 1 = nth (side c) 1 := order_own (side c) 1
  rw [o0, o1]
  rfl

/-- Where the choice is clear the device's result is the reference's. -/
theorem out_eq (c : Dev Cert.KernelIdeal.nD) (t : Fin 256) (d : Fin 512)
    (h : ∃ i j, Clear (gates (allX V0) (allR V0) (token (side c) t)) i j) :
    out m c (ix2 t d) = (Cert.ReferenceIdeal.Value.res_main_v138 V0 : (⟨2, ![512, 512]⟩ : Shape).Idx → EReal) (ix2 (token (side c) t) d) := by
  obtain ⟨i, j, h⟩ := h
  rw [res_at V0 h d, out_at, adds_eq hl c c t d h, adds_eq hl (peer c) c t d h, side_peer, halves _ _ _ h.ne]

end

end Cert.MoeProof
-- ==== Proof.Agree.lean ====
/-
The value claim: the devices' results, together, are the reference's wherever the choice of experts is clear.
-/
module

public import proofs.«01_k».proof.Defs
public import proofs.«01_k».proof.Proof.Run
public import proofs.«01_k».proof.Proof.Equation

@[expose] public section

set_option maxRecDepth 16384

noncomputable section

namespace Cert.MoeProof

open Idealize.ShloMosaic Idealize.SL.Sem

theorem agree : Cert.algebraic_KernelIdeal_ReferenceIdeal_on_clear (hKernelIdeal := Cert.KernelIdeal.Gen.facts)
    (hReferenceIdeal := Cert.ReferenceIdeal.Gen.facts) (hOn_clear := Cert.On_clear.Gen.facts) := by
  intro m g m' g' _ hm
  have hl : Laid m (StableHlo.launchContents m' 0) := {
    x := fun c t k => (congrFun (hm c).1 (ix2 t k)).trans (block_rows c _ t k)
    r := fun c k j => (congrFun (hm c).2.1 (ix2 k j)).trans (block_cols c _ k j)
    a := fun c j k f => (congrFun (hm c).2.2.1 (ix3 j k f)).trans (block_experts c _ _ j k f)
    b := fun c j f d => (congrFun (hm c).2.2.2 (ix3 j f d)).trans (block_experts c _ _ j f d) }
  refine ⟨Cert.ReferenceIdeal.Value.res_main_v138 (StableHlo.launchContents m' 0), ?_, ?_⟩
  · refine (θ_run _ _ _).mono (fun r h c => ⟨fun i hi => ?_, (h.1 c).1⟩) (run_main (F := Ideal) m g)
    have hv := congrFun (h.1 c).2 i
    refine hv.trans ?_
    obtain ⟨t, d, rfl⟩ : ∃ (t : Fin 256) (d : Fin 512), i = ix2 t d := ⟨i 0, i 1, by
      funext a
      match a with
      | ⟨0, _⟩ => rfl
      | ⟨1, _⟩ => rfl⟩
    have hi := (block_rows c _ t d).symm.trans hi
    exact (out_eq hl c t d (clear_of_mask _ _ _ _ (token (side c) t) d hi)).trans (block_rows c _ t d).symm
  · exact (θ_run _ _ _).mono (fun r h => ⟨fun i _ => congrFun (h 0).1 i, (h 0).2⟩)
      (Cert.ReferenceIdeal.Value.run (F := Ideal) m' g')

end Cert.MoeProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import proofs.«01_k».proof.Proof.Gen.On_clear
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.On_clear.Gen.facts,
  Cert.MoeProof.frame_kernel, Cert.MoeProof.frame_kernelIdeal, Cert.MoeProof.frame_referenceIdeal, trivial, Cert.MoeProof.agree⟩

end Cert.Proof

end
